-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_v1_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S73728x128 : Shape := ⟨2, ![73728, 128]⟩
abbrev S12288x768 : Shape := ⟨2, ![12288, 768]⟩
abbrev S12288 : Shape := ⟨1, ![12288]⟩
abbrev S96x128 : Shape := ⟨2, ![96, 128]⟩
abbrev S1024x768 : Shape := ⟨2, ![1024, 768]⟩
abbrev S8x128 : Shape := ⟨2, ![8, 128]⟩
abbrev S128x128 : Shape := ⟨2, ![128, 128]⟩
abbrev S1x128 : Shape := ⟨2, ![1, 128]⟩
abbrev S32x128 : Shape := ⟨2, ![32, 128]⟩
abbrev S32 : Shape := ⟨1, ![32]⟩
abbrev S32x1 : Shape := ⟨2, ![32, 1]⟩
abbrev S128 : Shape := ⟨1, ![128]⟩

abbrev nBuf : Space → Nat
  | .hbm => 13
  | .vmem => 25
  | .smem => 0
  | _ => 0

abbrev bufTy : (tb : Table) → Fin (tcTables nBuf tb) → BufTy
  | .hbm, ⟨0, _⟩ => ⟨S12288x768, .i32⟩
  | .hbm, ⟨1, _⟩ => ⟨S12288, .f32⟩
  | .hbm, ⟨2, _⟩ => ⟨S12288, .f32⟩
  | .hbm, ⟨3, _⟩ => ⟨S12288, .i32⟩
  | .hbm, ⟨4, _⟩ => ⟨S96x128, .f32⟩
  | .hbm, ⟨5, _⟩ => ⟨S96x128, .f32⟩
  | .hbm, ⟨6, _⟩ => ⟨S96x128, .i32⟩
  | .hbm, ⟨7, _⟩ => ⟨S12288x768, .bf16⟩
  | .hbm, ⟨8, _⟩ => ⟨S12288x768, .f32⟩
  | .hbm, ⟨9, _⟩ => ⟨S12288x768, .i8⟩
  | .hbm, ⟨10, _⟩ => ⟨S96x128, .f32⟩
  | .hbm, ⟨11, _⟩ => ⟨S12288x768, .i8⟩
  | .hbm, ⟨12, _⟩ => ⟨S96x128, .f32⟩
  | .local _ .vmem, ⟨0, _⟩ => ⟨S73728x128, .f32⟩
  | .local _ .vmem, ⟨1, _⟩ => ⟨S1024x768, .i32⟩
  | .local _ .vmem, ⟨2, _⟩ => ⟨S1024x768, .i32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .i32⟩
  | .local _ .vmem, ⟨8, _⟩ => ⟨S8x128, .i32⟩
  | .local _ .vmem, ⟨9, _⟩ => ⟨S1024x768, .bf16⟩
  | .local _ .vmem, ⟨10, _⟩ => ⟨S1024x768, .bf16⟩
  | .local _ .vmem, ⟨11, _⟩ => ⟨S1024x768, .f32⟩
  | .local _ .vmem, ⟨12, _⟩ => ⟨S1024x768, .f32⟩
  | .local _ .vmem, ⟨13, _⟩ => ⟨S1024x768, .i8⟩
  | .local _ .vmem, ⟨14, _⟩ => ⟨S1024x768, .i8⟩
  | .local _ .vmem, ⟨15, _⟩ => ⟨S8x128, .f32⟩
  | .local _ .vmem, ⟨16, _⟩ => ⟨S8x128, .f32⟩
  | .local _ .vmem, ⟨17, _⟩ => ⟨S1024x768, .i8⟩
  | .local _ .vmem, ⟨18, _⟩ => ⟨S1024x768, .i8⟩
  | .local _ .vmem, ⟨19, _⟩ => ⟨S8x128, .f32⟩
  | .local _ .vmem, ⟨20, _⟩ => ⟨S8x128, .f32⟩
  | .local _ .vmem, ⟨21, _⟩ => ⟨S8x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | _, _ => ⟨S12288x768, .i32⟩

abbrev bufScoped : (cs : CoreSpace) → Fin (nBuf (.core cs)) → Bool
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_arg0 : Ref sig .tc := ⟨.vmem, 0, rfl⟩
abbrev cc0_stg0_0 : Ref sig .tc := ⟨.vmem, 1, rfl⟩
abbrev cc0_stg0_1 : Ref sig .tc := ⟨.vmem, 2, rfl⟩
abbrev cc0_stg1_0 : Ref sig .tc := ⟨.vmem, 3, rfl⟩
abbrev cc0_stg1_1 : Ref sig .tc := ⟨.vmem, 4, rfl⟩
abbrev cc0_stg2_0 : Ref sig .tc := ⟨.vmem, 5, rfl⟩
abbrev cc0_stg2_1 : Ref sig .tc := ⟨.vmem, 6, rfl⟩
abbrev cc0_stg3_0 : Ref sig .tc := ⟨.vmem, 7, rfl⟩
abbrev cc0_stg3_1 : Ref sig .tc := ⟨.vmem, 8, rfl⟩
abbrev cc0_stg4_0 : Ref sig .tc := ⟨.vmem, 9, rfl⟩
abbrev cc0_stg4_1 : Ref sig .tc := ⟨.vmem, 10, rfl⟩
abbrev cc0_stg5_0 : Ref sig .tc := ⟨.vmem, 11, rfl⟩
abbrev cc0_stg5_1 : Ref sig .tc := ⟨.vmem, 12, rfl⟩
abbrev cc0_stg6_0 : Ref sig .tc := ⟨.vmem, 13, rfl⟩
abbrev cc0_stg6_1 : Ref sig .tc := ⟨.vmem, 14, rfl⟩
abbrev cc0_stg7_0 : Ref sig .tc := ⟨.vmem, 15, rfl⟩
abbrev cc0_stg7_1 : Ref sig .tc := ⟨.vmem, 16, rfl⟩
abbrev cc0_stg8_0 : Ref sig .tc := ⟨.vmem, 17, rfl⟩
abbrev cc0_stg8_1 : Ref sig .tc := ⟨.vmem, 18, rfl⟩
abbrev cc0_stg9_0 : Ref sig .tc := ⟨.vmem, 19, rfl⟩
abbrev cc0_stg9_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c8_i32 : BitVec 32 := 8#32
  let v18 : BitVec 32 := Scalar.addi c0_i32 c8_i32
  let c1_i32 : BitVec 32 := 1#32
  ⟨c0_i32, v18, c1_i32⟩
def k0_off1 (k0_t1 : Fin k0_t1_loop.trips) : Fin 2 → Nat :=
  let c0_i32_9 : BitVec 32 := 0#32
  let c0_i32 : BitVec 32 := 0#32
  let c1_i32 : BitVec 32 := 1#32
  let arg16 : BitVec 32 := Scf.iv c0_i32 c1_i32 k0_t1
  let c1_i32_8 : BitVec 32 := 1#32
  let v19 : BitVec 32 := Scalar.muli arg16 c1_i32_8
  let v20 : BitVec 32 := Scalar.addi c0_i32_9 v19
  let v21 : Index := Scalar.indexCast v20
  let c0_10 : Index := 0#32
  ![v21.toNat, 0]
def k0_off2 (i : grid0.Coords) (k0_t1 : Fin k0_t1_loop.trips) (c0_i32_30 : BitVec 32) (c0_i32_31 : BitVec 32) : Fin 2 → Nat :=
  let arg0 : BitVec 32 := BitVec.ofNat 32 (i 0).val
  let c1024_i32 : BitVec 32 := 1024#32
  let v59 : BitVec 32 := Scalar.muli arg0 c1024_i32
  let c0_i32_9 : BitVec 32 := 0#32
  let c0_i32 : BitVec 32 := 0#32
  let c1_i32 : BitVec 32 := 1#32
  let arg16 : BitVec 32 := Scf.iv c0_i32 c1_i32 k0_t1
  let c1_i32_8 : BitVec 32 := 1#32
  let v19 : BitVec 32 := Scalar.muli arg16 c1_i32_8
  let v20 : BitVec 32 := Scalar.addi c0_i32_9 v19
  let c128_i32_29 : BitVec 32 := 128#32
  let v60 : BitVec 32 := Scalar.muli v20 c128_i32_29
  let v61 : BitVec 32 := Scalar.addi v59 v60
  let v62 : BitVec 32 := Scalar.addi v61 c0_i32_30
  let c6_i32 : BitVec 32 := 6#32
  let v63 : BitVec 32 := Scalar.muli v62 c6_i32
  let v64 : BitVec 32 := Scalar.addi v63 c0_i32_31
  let v65 : Index := Scalar.indexCast v64
  let c0_32 : Index := 0#32
  ![v65.toNat, 0]
def k0_off3 (k0_t1 : Fin k0_t1_loop.trips) (c0_i32_21 : BitVec 32) : Fin 2 → Nat :=
  let c0_i32_9 : BitVec 32 := 0#32
  let c0_i32 : BitVec 32 := 0#32
  let c1_i32 : BitVec 32 := 1#32
  let arg16 : BitVec 32 := Scf.iv c0_i32 c1_i32 k0_t1
  let c1_i32_8 : BitVec 32 := 1#32
  let v19 : BitVec 32 := Scalar.muli arg16 c1_i32_8
  let v20 : BitVec 32 := Scalar.addi c0_i32_9 v19
  let c128_i32 : BitVec 32 := 128#32
  let v49 : BitVec 32 := Scalar.muli v20 c128_i32
  let v50 : BitVec 32 := Scalar.addi v49 c0_i32_21
  let v67 : Index := Scalar.indexCast v50
  let c0_33 : Index := 0#32
  ![v67.toNat, 0]
def k0_off4 (k0_t1 : Fin k0_t1_loop.trips) (c0_i32_21 : BitVec 32) : Fin 2 → Nat :=
  let c0_i32_9 : BitVec 32 := 0#32
  let c0_i32 : BitVec 32 := 0#32
  let c1_i32 : BitVec 32 := 1#32
  let arg16 : BitVec 32 := Scf.iv c0_i32 c1_i32 k0_t1
  let c1_i32_8 : BitVec 32 := 1#32
  let v19 : BitVec 32 := Scalar.muli arg16 c1_i32_8
  let v20 : BitVec 32 := Scalar.addi c0_i32_9 v19
  let c128_i32 : BitVec 32 := 128#32
  let v49 : BitVec 32 := Scalar.muli v20 c128_i32
  let v50 : BitVec 32 := Scalar.addi v49 c0_i32_21
  let v114 : Index := Scalar.indexCast v50
  let c128 : Index := 128#32
  ![v114.toNat, 128]
def k0_off5 (k0_t1 : Fin k0_t1_loop.trips) (c0_i32_21 : BitVec 32) : Fin 2 → Nat :=
  let c0_i32_9 : BitVec 32 := 0#32
  let c0_i32 : BitVec 32 := 0#32
  let c1_i32 : BitVec 32 := 1#32
  let arg16 : BitVec 32 := Scf.iv c0_i32 c1_i32 k0_t1
  let c1_i32_8 : BitVec 32 := 1#32
  let v19 : BitVec 32 := Scalar.muli arg16 c1_i32_8
  let v20 : BitVec 32 := Scalar.addi c0_i32_9 v19
  let c128_i32 : BitVec 32 := 128#32
  let v49 : BitVec 32 := Scalar.muli v20 c128_i32
  let v50 : BitVec 32 := Scalar.addi v49 c0_i32_21
  let v161 : Index := Scalar.indexCast v50
  let c256 : Index := 256#32
  ![v161.toNat, 256]
def k0_off6 (k0_t1 : Fin k0_t1_loop.trips) (c0_i32_21 : BitVec 32) : Fin 2 → Nat :=
  let c0_i32_9 : BitVec 32 := 0#32
  let c0_i32 : BitVec 32 := 0#32
  let c1_i32 : BitVec 32 := 1#32
  let arg16 : BitVec 32 := Scf.iv c0_i32 c1_i32 k0_t1
  let c1_i32_8 : BitVec 32 := 1#32
  let v19 : BitVec 32 := Scalar.muli arg16 c1_i32_8
  let v20 : BitVec 32 := Scalar.addi c0_i32_9 v19
  let c128_i32 : BitVec 32 := 128#32
  let v49 : BitVec 32 := Scalar.muli v20 c128_i32
  let v50 : BitVec 32 := Scalar.addi v49 c0_i32_21
  let v208 : Index := Scalar.indexCast v50
  let c384 : Index := 384#32
  ![v208.toNat, 384]
def k0_off7 (k0_t1 : Fin k0_t1_loop.trips) (c0_i32_21 : BitVec 32) : Fin 2 → Nat :=
  let c0_i32_9 : BitVec 32 := 0#32
  let c0_i32 : BitVec 32 := 0#32
  let c1_i32 : BitVec 32 := 1#32
  let arg16 : BitVec 32 := Scf.iv c0_i32 c1_i32 k0_t1
  let c1_i32_8 : BitVec 32 := 1#32
  let v19 : BitVec 32 := Scalar.muli arg16 c1_i32_8
  let v20 : BitVec 32 := Scalar.addi c0_i32_9 v19
  let c128_i32 : BitVec 32 := 128#32
  let v49 : BitVec 32 := Scalar.muli v20 c128_i32
  let v50 : BitVec 32 := Scalar.addi v49 c0_i32_21
  let v255 : Index := Scalar.indexCast v50
  let c512 : Index := 512#32
  ![v255.toNat, 512]
def k0_off8 (k0_t1 : Fin k0_t1_loop.trips) (c0_i32_21 : BitVec 32) : Fin 2 → Nat :=
  let c0_i32_9 : BitVec 32 := 0#32
  let c0_i32 : BitVec 32 := 0#32
  let c1_i32 : BitVec 32 := 1#32
  let arg16 : BitVec 32 := Scf.iv c0_i32 c1_i32 k0_t1
  let c1_i32_8 : BitVec 32 := 1#32
  let v19 : BitVec 32 := Scalar.muli arg16 c1_i32_8
  let v20 : BitVec 32 := Scalar.addi c0_i32_9 v19
  let c128_i32 : BitVec 32 := 128#32
  let v49 : BitVec 32 := Scalar.muli v20 c128_i32
  let v50 : BitVec 32 := Scalar.addi v49 c0_i32_21
  let v302 : Index := Scalar.indexCast v50
  let c640 : Index := 640#32
  ![v302.toNat, 640]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x768 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x768 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S73728x128 : Shape := ⟨2, ![73728, 128]⟩
abbrev S12288x768 : Shape := ⟨2, ![12288, 768]⟩
abbrev S12288 : Shape := ⟨1, ![12288]⟩
abbrev S96x128 : Shape := ⟨2, ![96, 128]⟩
abbrev S12288x1 : Shape := ⟨2, ![12288, 1]⟩

abbrev nBuf : Space → Nat
  | .hbm => 12
  | .vmem => 11
  | .smem => 0
  | _ => 0

abbrev bufTy : (tb : Table) → Fin (tcTables nBuf tb) → BufTy
  | .hbm, ⟨0, _⟩ => ⟨S73728x128, .f32⟩
  | .hbm, ⟨1, _⟩ => ⟨S12288x768, .i32⟩
  | .hbm, ⟨2, _⟩ => ⟨S12288, .f32⟩
  | .hbm, ⟨3, _⟩ => ⟨S12288, .f32⟩
  | .hbm, ⟨4, _⟩ => ⟨S12288, .i32⟩
  | .hbm, ⟨5, _⟩ => ⟨S12288x768, .f32⟩
  | .hbm, ⟨6, _⟩ => ⟨S12288x768, .bf16⟩
  | .hbm, ⟨7, _⟩ => ⟨S12288x768, .f32⟩
  | .hbm, ⟨8, _⟩ => ⟨S12288x768, .i8⟩
  | .hbm, ⟨9, _⟩ => ⟨S96x128, .f32⟩
  | .hbm, ⟨10, _⟩ => ⟨S12288x768, .i8⟩
  | .hbm, ⟨11, _⟩ => ⟨S96x128, .f32⟩
  | .local _ .vmem, ⟨0, _⟩ => ⟨S12288x768, .f32⟩
  | .local _ .vmem, ⟨1, _⟩ => ⟨S12288x768, .i32⟩
  | .local _ .vmem, ⟨2, _⟩ => ⟨S12288, .f32⟩
  | .local _ .vmem, ⟨3, _⟩ => ⟨S12288, .f32⟩
  | .local _ .vmem, ⟨4, _⟩ => ⟨S12288, .i32⟩
  | .local _ .vmem, ⟨5, _⟩ => ⟨S12288x768, .bf16⟩
  | .local _ .vmem, ⟨6, _⟩ => ⟨S12288x768, .f32⟩
  | .local _ .vmem, ⟨7, _⟩ => ⟨S12288x768, .i8⟩
  | .local _ .vmem, ⟨8, _⟩ => ⟨S96x128, .f32⟩
  | .local _ .vmem, ⟨9, _⟩ => ⟨S12288x768, .i8⟩
  | .local _ .vmem, ⟨10, _⟩ => ⟨S96x128, .f32⟩
  | _, _ => ⟨S73728x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S12288x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x768 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x768 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S96x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x768 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S96x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelRuns.lean ====
/- What the body run is stated over: the arrays at the launch, the windows' blocks, the staging and scratch memrefs, the invariant. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The kernel body on any staging memrefs: a subtype the run finds -/

/-- One staging buffer of output window 4, through which its contents are stated (`View.read_writes_of_cover`: the
    choice does not matter). -/
abbrev VO0_4 : View sig .tc .vmem S1024x768 .bf16 := (Memref.whole cc0_stg4_0 : Memref sig .tc .vmem S1024x768 .bf16).view
/-- One staging buffer of output window 5, through which its contents are stated (`View.read_writes_of_cover`: the
    choice does not matter). -/
abbrev VO0_5 : View sig .tc .vmem S1024x768 .f32 := (Memref.whole cc0_stg5_0 : Memref sig .tc .vmem S1024x768 .f32).view
/-- One staging buffer of output window 6, through which its contents are stated (`View.read_writes_of_cover`: the
    choice does not matter). -/
abbrev VO0_6 : View sig .tc .vmem S1024x768 .i8 := (Memref.whole cc0_stg6_0 : Memref sig .tc .vmem S1024x768 .i8).view
/-- One staging buffer of output window 7, through which its contents are stated (`View.read_writes_of_cover`: the
    choice does not matter). -/
abbrev VO0_7 : View sig .tc .vmem S8x128 .f32 := (Memref.whole cc0_stg7_0 : Memref sig .tc .vmem S8x128 .f32).view
/-- One staging buffer of output window 8, through which its contents are stated (`View.read_writes_of_cover`: the
    choice does not matter). -/
abbrev VO0_8 : View sig .tc .vmem S1024x768 .i8 := (Memref.whole cc0_stg8_0 : Memref sig .tc .vmem S1024x768 .i8).view
/-- One staging buffer of output window 9, through which its contents are stated (`View.read_writes_of_cover`: the
    choice does not matter). -/
abbrev VO0_9 : View sig .tc .vmem S8x128 .f32 := (Memref.whole cc0_stg9_0 : Memref sig .tc .vmem S8x128 .f32).view
/-- Each window's current staging memref at point `t`, spelled as the pipeline passes it (`bodyAt0`), and its wholeness. -/
abbrev ms0_0 (t : Fin cfg0.N) : Memref sig .tc .vmem S1024x768 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x768 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x768 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S8x128 .f32 := Memref.whole cc0_scratch0
abbrev scM0_1 : Memref sig .tc .vmem S128x128 .f32 := Memref.whole cc0_scratch1
abbrev scM0_2 : Memref sig .tc .vmem S128x128 .f32 := Memref.whole cc0_scratch2
abbrev scM0_3 : Memref sig .tc .vmem S128x128 .f32 := Memref.whole cc0_scratch3
/-- The operands and results RUN IN PLACE: their own VMEM buffers, whole. -/
abbrev hbM0_0 : Memref sig .tc .vmem S73728x128 .f32 := Memref.whole main_arg0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The kernel has no DMA semaphore of its own: the empty family (`Pipeline.OwnSemFacts` holds of it vacuously). -/
abbrev osem0 : Fin 0 → SemLoc sig := fun j => (![] : Fin 0 → SemLoc sig) j
theorem ownSemFacts0 : Pipeline.OwnSemFacts spec0 osem0 := by decide
/-- The cells at zero, listed (none: `emp`). -/
theorem ownSems00_eq (c : Dev nD) :
    (Pipeline.ownSems0 (Ix := Unit) (Name := ℕ) (U := Pipeline.UD sig nD τ) (Lvl := ℕ) (Val := Elt F) (τ := τ) osem0 c : sProp 𝕄)
      = iprop(emp) := by
  rw [Pipeline.ownSems0_eq_of_list c osem0 [] (by decide) (by decide)]; rfl
/-- The inputs run in place, which the body only loads, as references: unscoped, no window's array (`Pipeline.restRefs`). -/
def H0 : Finset (Ref sig .tc) := {main_arg0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body whose inputs run in place (and, when it has transfers of its own, that copies HBM operands),
    `Pipeline.ΦD`, conjunct by conjunct: the scratch operands owned at some contents, the generator register at some state, the
    own cells at zero, those buffers at their launch contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(emp) ∗ iprop(hbPt0 c hbM0_0 (V m c main_arg0))) := by
  rw [Pipeline.ΦD_eq, scopedRest0_eq, ownSems00_eq, hbmPts0_eq]; simp only [scM0_0, scM0_1, scM0_2, scM0_3, owns_whole]; try rfl

end Cert.Proof.Kernel

end
-- ==== Proof.KernelTrip.lean ====
module

public import proofs.«01_k».proof.Proof.Gen.Kernel.Loops
public import proofs.«01_k».proof.Proof.Gen.Kernel.Launch
public import proofs.«01_k».proof.Proof.Gen.Kernel.Points
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Ring
public import Idealize.ShloMosaic.Lib.Claim

@[expose] public section

set_option maxRecDepth 65536
set_option maxHeartbeats 40000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One trip's resources: what the region reads at its contents, what it writes at any. -/
abbrev Trip (c : Dev nD) (arg1 : Memref sig .tc .vmem S73728x128 .f32) (arg2 : Memref sig .tc .vmem S1024x768 .i32) (arg3 : Memref sig .tc .vmem S8x128 .f32) (arg4 : Memref sig .tc .vmem S8x128 .f32) (arg12 : Memref sig .tc .vmem S8x128 .f32) (arg6 : Memref sig .tc .vmem S1024x768 .bf16) (arg7 : Memref sig .tc .vmem S1024x768 .f32) (arg8 : Memref sig .tc .vmem S1024x768 .i8) (arg9 : Memref sig .tc .vmem S8x128 .f32) (arg10 : Memref sig .tc .vmem S1024x768 .i8) (arg11 : Memref sig .tc .vmem S8x128 .f32) (arg13 : Memref sig .tc .vmem S128x128 .f32) (arg14 : Memref sig .tc .vmem S128x128 .f32) (arg15 : Memref sig .tc .vmem S128x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) : sProp 𝕄 :=
  iprop((arg1.view.loc (c : Thread nD τ) ↦{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg12.view.loc (c : Thread nD τ) ↦[arg12.view.set]{fullShare} X_arg12) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15))

/-- One trip at a symbolic `k`: the pieces it writes into each memref are what the run finds. They depend on what the
trip reads only, never on what it finds in the memrefs it writes. -/
@[irreducible] def trip (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (k : Fin k0_t1_loop.trips) :
    Σ' (L_arg6 : List (View.Piece (Elt F) S1024x768 .bf16)) (L_arg7 : List (View.Piece (Elt F) S1024x768 .f32)) (L_arg8 : List (View.Piece (Elt F) S1024x768 .i8)) (L_arg9 : List (View.Piece (Elt F) S8x128 .f32)) (L_arg10 : List (View.Piece (Elt F) S1024x768 .i8)) (L_arg11 : List (View.Piece (Elt F) S8x128 .f32)) (L_arg13 : List (View.Piece (Elt F) S128x128 .f32)) (L_arg14 : List (View.Piece (Elt F) S128x128 .f32)), {L_arg15 : List (View.Piece (Elt F) S128x128 .f32) //
      ∀ (E : Set ℕ) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg13 : BufTy.Contents (Elt F) arg13.view.ty) (f_arg14 : BufTy.Contents (Elt F) arg14.view.ty) (f_arg15 : BufTy.Contents (Elt F) arg15.view.ty),
      Trip (F := F) c arg1 arg2 arg3 arg4 arg12 arg6 arg7 arg8 arg9 arg10 arg11 arg13 arg14 arg15 X_arg1 X_arg2 X_arg3 X_arg4 X_arg12 f_arg6 f_arg7 f_arg8 f_arg9 f_arg10 f_arg11 f_arg13 f_arg14 f_arg15
      ⊢ wp frame (wpE (defs₀ (F := F)) 𝒱 (c : Thread nD τ) bd) E (Gen.k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k PUnit.unit)
          (fun _ => Trip (F := F) c arg1 arg2 arg3 arg4 arg12 arg6 arg7 arg8 arg9 arg10 arg11 arg13 arg14 arg15 X_arg1 X_arg2 X_arg3 X_arg4 X_arg12 (arg6.view.writes (Elt F) f_arg6 L_arg6) (arg7.view.writes (Elt F) f_arg7 L_arg7) (arg8.view.writes (Elt F) f_arg8 L_arg8) (arg9.view.writes (Elt F) f_arg9 L_arg9) (arg10.view.writes (Elt F) f_arg10 L_arg10) (arg11.view.writes (Elt F) f_arg11 L_arg11) (arg13.view.writes (Elt F) f_arg13 L_arg13) (arg14.view.writes (Elt F) f_arg14 L_arg14) (arg15.view.writes (Elt F) f_arg15 L_arg15))} := by
  have hk : k.val < 8 := Nat.lt_of_lt_of_le k.isLt k0_t1_abs.2.1
  refine ⟨?_, ?_, ?_, ?_, ?_, ?_, ?_, ?_, ?_, fun E f_arg6 f_arg7 f_arg8 f_arg9 f_arg10 f_arg11 f_arg13 f_arg14 f_arg15 => ?run⟩
  case run =>
    unfold Gen.k0_t1_body
    iintro ⟨HR_arg1, HR_arg2, HR_arg3, HR_arg4, HR_arg12, HW_arg6, HW_arg7, HW_arg8, HW_arg9, HW_arg10, HW_arg11, HW_arg13, HW_arg14, HW_arg15⟩
    sl_exec
    sl_step
    sl_close

/-- Trip `k`'s pieces, per written memref. -/
abbrev tripL (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (k : Fin k0_t1_loop.trips) : List (View.Piece (Elt F) S1024x768 .bf16) × List (View.Piece (Elt F) S1024x768 .f32) × List (View.Piece (Elt F) S1024x768 .i8) × List (View.Piece (Elt F) S8x128 .f32) × List (View.Piece (Elt F) S1024x768 .i8) × List (View.Piece (Elt F) S8x128 .f32) × List (View.Piece (Elt F) S128x128 .f32) × List (View.Piece (Elt F) S128x128 .f32) × List (View.Piece (Elt F) S128x128 .f32) :=
  ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.2.2.1)

/-- The pieces of the trips before `k` with trip `k`'s in front. -/
@[irreducible] def pbStep (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (k : Nat) (prev : List (View.Piece (Elt F) S1024x768 .bf16) × List (View.Piece (Elt F) S1024x768 .f32) × List (View.Piece (Elt F) S1024x768 .i8) × List (View.Piece (Elt F) S8x128 .f32) × List (View.Piece (Elt F) S1024x768 .i8) × List (View.Piece (Elt F) S8x128 .f32) × List (View.Piece (Elt F) S128x128 .f32) × List (View.Piece (Elt F) S128x128 .f32) × List (View.Piece (Elt F) S128x128 .f32)) : List (View.Piece (Elt F) S1024x768 .bf16) × List (View.Piece (Elt F) S1024x768 .f32) × List (View.Piece (Elt F) S1024x768 .i8) × List (View.Piece (Elt F) S8x128 .f32) × List (View.Piece (Elt F) S1024x768 .i8) × List (View.Piece (Elt F) S8x128 .f32) × List (View.Piece (Elt F) S128x128 .f32) × List (View.Piece (Elt F) S128x128 .f32) × List (View.Piece (Elt F) S128x128 .f32) :=
  if h : k < k0_t1_loop.trips then
    ((tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).1 ++ prev.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).2.1 ++ prev.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).2.2.1 ++ prev.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).2.2.2.1 ++ prev.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).2.2.2.2.1 ++ prev.2.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).2.2.2.2.2.1 ++ prev.2.2.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).2.2.2.2.2.2.1 ++ prev.2.2.2.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).2.2.2.2.2.2.2.1 ++ prev.2.2.2.2.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).2.2.2.2.2.2.2.2 ++ prev.2.2.2.2.2.2.2.2)
  else prev

/-- The pieces of the trips before `k` (last first), per written memref. -/
def pb (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) : Nat → List (View.Piece (Elt F) S1024x768 .bf16) × List (View.Piece (Elt F) S1024x768 .f32) × List (View.Piece (Elt F) S1024x768 .i8) × List (View.Piece (Elt F) S8x128 .f32) × List (View.Piece (Elt F) S1024x768 .i8) × List (View.Piece (Elt F) S8x128 .f32) × List (View.Piece (Elt F) S128x128 .f32) × List (View.Piece (Elt F) S128x128 .f32) × List (View.Piece (Elt F) S128x128 .f32)
  | 0 => ([], [], [], [], [], [], [], [], [])
  | k + 1 => pbStep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k (pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k)

theorem pb_succ (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (k : Fin k0_t1_loop.trips) :
    pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 (k.val + 1) = ((tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).1 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.1 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.1 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.1 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.1 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).2.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.1 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).2.2.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.1 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).2.2.2.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.2.1 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).2.2.2.2.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.2.2 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).2.2.2.2.2.2.2.2) := by
  rw [pb.eq_2]; unfold pbStep; exact dif_pos k.isLt

/-- The invariant before trip `k`: what is read at its contents, each written memref holding the pieces of the trips
before `k` over what it held at loop entry. -/
abbrev inv (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (G_arg6 : BufTy.Contents (Elt F) arg6.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg14 : BufTy.Contents (Elt F) arg14.view.ty) (G_arg15 : BufTy.Contents (Elt F) arg15.view.ty) (k : Nat) : sProp 𝕄 :=
  iprop((arg1.view.loc (c : Thread nD τ) ↦{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg12.view.loc (c : Thread nD τ) ↦[arg12.view.set]{fullShare} X_arg12) ∗ (∃ f, (arg6.view.loc (c : Thread nD τ) ↦[arg6.view.set]{fullShare} f) ∗ ⌜f = arg6.view.writes (Elt F) G_arg6 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).1⌝) ∗ (∃ f, (arg7.view.loc (c : Thread nD τ) ↦[arg7.view.set]{fullShare} f) ∗ ⌜f = arg7.view.writes (Elt F) G_arg7 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.1⌝) ∗ (∃ f, (arg8.view.loc (c : Thread nD τ) ↦[arg8.view.set]{fullShare} f) ∗ ⌜f = arg8.view.writes (Elt F) G_arg8 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.1⌝) ∗ (∃ f, (arg9.view.loc (c : Thread nD τ) ↦[arg9.view.set]{fullShare} f) ∗ ⌜f = arg9.view.writes (Elt F) G_arg9 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.1⌝) ∗ (∃ f, (arg10.view.loc (c : Thread nD τ) ↦[arg10.view.set]{fullShare} f) ∗ ⌜f = arg10.view.writes (Elt F) G_arg10 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.1⌝) ∗ (∃ f, (arg11.view.loc (c : Thread nD τ) ↦[arg11.view.set]{fullShare} f) ∗ ⌜f = arg11.view.writes (Elt F) G_arg11 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.1⌝) ∗ (∃ f, (arg13.view.loc (c : Thread nD τ) ↦[arg13.view.set]{fullShare} f) ∗ ⌜f = arg13.view.writes (Elt F) G_arg13 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.1⌝) ∗ (∃ f, (arg14.view.loc (c : Thread nD τ) ↦[arg14.view.set]{fullShare} f) ∗ ⌜f = arg14.view.writes (Elt F) G_arg14 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.2.1⌝) ∗ (∃ f, (arg15.view.loc (c : Thread nD τ) ↦[arg15.view.set]{fullShare} f) ∗ ⌜f = arg15.view.writes (Elt F) G_arg15 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.2.2⌝))

set_option warn.classDefReducibility false in
/-- The loop by its invariant. -/
@[sl_loop] def loopInv (𝒱 : Variants) (c : Dev nD) (bd : Option 𝒱.V) (E : Set ℕ) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (G_arg6 : BufTy.Contents (Elt F) arg6.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg14 : BufTy.Contents (Elt F) arg14.view.ty) (G_arg15 : BufTy.Contents (Elt F) arg15.view.ty) :
    Gen.LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 where
  inv := fun k _ => inv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 G_arg6 G_arg7 G_arg8 G_arg9 G_arg10 G_arg11 G_arg13 G_arg14 G_arg15 k
  step k acc := by
    iintro ⟨HR_arg1, HR_arg2, HR_arg3, HR_arg4, HR_arg12, ⟨%f_arg6, HW_arg6, %h_arg6⟩, ⟨%f_arg7, HW_arg7, %h_arg7⟩, ⟨%f_arg8, HW_arg8, %h_arg8⟩, ⟨%f_arg9, HW_arg9, %h_arg9⟩, ⟨%f_arg10, HW_arg10, %h_arg10⟩, ⟨%f_arg11, HW_arg11, %h_arg11⟩, ⟨%f_arg13, HW_arg13, %h_arg13⟩, ⟨%f_arg14, HW_arg14, %h_arg14⟩, ⟨%f_arg15, HW_arg15, %h_arg15⟩⟩
    iapply (wp_wand_r Idealize.ShloMosaic.frame (wpE (defs₀ (F := F)) 𝒱 (c : Thread nD τ) bd) E)
    isplitl [HR_arg1 HR_arg2 HR_arg3 HR_arg4 HR_arg12 HW_arg6 HW_arg7 HW_arg8 HW_arg9 HW_arg10 HW_arg11 HW_arg13 HW_arg14 HW_arg15]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.2.2.2 E f_arg6 f_arg7 f_arg8 f_arg9 f_arg10 f_arg11 f_arg13 f_arg14 f_arg15)

      isplitl [HR_arg1]; · iexact HR_arg1
      isplitl [HR_arg2]; · iexact HR_arg2
      isplitl [HR_arg3]; · iexact HR_arg3
      isplitl [HR_arg4]; · iexact HR_arg4
      isplitl [HR_arg12]; · iexact HR_arg12
      isplitl [HW_arg6]; · iexact HW_arg6
      isplitl [HW_arg7]; · iexact HW_arg7
      isplitl [HW_arg8]; · iexact HW_arg8
      isplitl [HW_arg9]; · iexact HW_arg9
      isplitl [HW_arg10]; · iexact HW_arg10
      isplitl [HW_arg11]; · iexact HW_arg11
      isplitl [HW_arg13]; · iexact HW_arg13
      isplitl [HW_arg14]; · iexact HW_arg14
      iexact HW_arg15
    · iintro %_ ⟨HR_arg1, HR_arg2, HR_arg3, HR_arg4, HR_arg12, HW_arg6, HW_arg7, HW_arg8, HW_arg9, HW_arg10, HW_arg11, HW_arg13, HW_arg14, HW_arg15⟩
      isplitl [HR_arg1]; · iexact HR_arg1
      isplitl [HR_arg2]; · iexact HR_arg2
      isplitl [HR_arg3]; · iexact HR_arg3
      isplitl [HR_arg4]; · iexact HR_arg4
      isplitl [HR_arg12]; · iexact HR_arg12
      rw [pb_succ]
      isplitl [HW_arg6]
      · iexists _; isplitl [HW_arg6]; · iexact HW_arg6
        ipureintro; rw [h_arg6, ← View.writes_append]
      isplitl [HW_arg7]
      · iexists _; isplitl [HW_arg7]; · iexact HW_arg7
        ipureintro; rw [h_arg7, ← View.writes_append]
      isplitl [HW_arg8]
      · iexists _; isplitl [HW_arg8]; · iexact HW_arg8
        ipureintro; rw [h_arg8, ← View.writes_append]
      isplitl [HW_arg9]
      · iexists _; isplitl [HW_arg9]; · iexact HW_arg9
        ipureintro; rw [h_arg9, ← View.writes_append]
      isplitl [HW_arg10]
      · iexists _; isplitl [HW_arg10]; · iexact HW_arg10
        ipureintro; rw [h_arg10, ← View.writes_append]
      isplitl [HW_arg11]
      · iexists _; isplitl [HW_arg11]; · iexact HW_arg11
        ipureintro; rw [h_arg11, ← View.writes_append]
      isplitl [HW_arg13]
      · iexists _; isplitl [HW_arg13]; · iexact HW_arg13
        ipureintro; rw [h_arg13, ← View.writes_append]
      isplitl [HW_arg14]
      · iexists _; isplitl [HW_arg14]; · iexact HW_arg14
        ipureintro; rw [h_arg14, ← View.writes_append]
      iexists _; isplitl [HW_arg15]; · iexact HW_arg15
      ipureintro; rw [h_arg15, ← View.writes_append]

end Cert.Proof.Kernel

end
-- ==== Proof.KernelRunA.lean ====
/- The run of the whole body: what it leaves in each output window, as pieces. -/
module

public import proofs.«01_k».proof.Proof.KernelRuns
public import proofs.«01_k».proof.Proof.KernelTrip

@[expose] public section

-- membership in a rectangle of production extents (`View.cover_of_tiled`): the elaborator's structural look
-- recurses once per coordinate of the long axes
set_option maxRecDepth 16384

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first), WITH the
    proof that on whole staging memrefs — the inputs' at their contents, the other outputs' at
    anything, the scratch buffers at anything, the buffers run in place whole — the inputs' at their launch contents `fh·`, the results' at some contents —, and the core's `owes`, the body runs to the continuation holding the inputs' as they were,
    a scratch it stored into and does not carry with its pieces (`LT·`) written over some contents, the other scratch at some contents, the inputs run in place as they were, the results run in place at some contents (what its stores left there), the waits recorded in `owes`, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) :
    Σ' (L4 : List (View.Piece (Elt F) S1024x768 .bf16)), Σ' (L5 : List (View.Piece (Elt F) S1024x768 .f32)), Σ' (L6 : List (View.Piece (Elt F) S1024x768 .i8)), Σ' (L7 : List (View.Piece (Elt F) S8x128 .f32)), Σ' (L8 : List (View.Piece (Elt F) S1024x768 .i8)), Σ' (L9 : List (View.Piece (Elt F) S8x128 .f32)), Σ' (LT0 : List (View.Piece (Elt F) S8x128 .f32)), Σ' (LT1 : List (View.Piece (Elt F) S128x128 .f32)), { LT2 : List (View.Piece (Elt F) S128x128 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (∃ d, owns (c : Thread nD τ) arg15 fullShare d) ∗ hbPt0 c hbM0_0 fh0 ∗ (∃ W', owes (c : Thread nD τ) 0 W')) -∗ K ⟨⟩))
          ⊢ wp frame (wpE (defs₀ (F := F)) Variants.none c none) Set.univ (cc0_adam_update i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, fun W K => ?run⟩
  case run =>
    simp only [cc0_adam_update_eq_skeleton]; unfold cc0_adam_update_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hh0, HW, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    isplitl [HS3]
    · iexists _, _; isplitr; swap; · iexact HS3
      ipureintro; rfl
    isplitl [Hh0]; · iexact Hh0
    iexists _; iexact HW

end Cert.Proof.Kernel

end
-- ==== Proof.KernelFrame.lean ====
/- The launch: the windows' contents point by point, the body obligation, the run, the frame. -/
module

public import proofs.«01_k».proof.Proof.KernelRunA
public import Idealize.ShloMosaic.Lib.Claim

@[expose] public section

-- membership in a rectangle of production extents (`View.cover_of_tiled`): the elaborator's structural look
-- recurses once per coordinate of the long axes
set_option maxRecDepth 16384

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The run's pieces for output 4 tile its block (1 store of `S1024x768`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) (y : S1024x768.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).1 S32x128.size (by sl_kernel_rfl) y

/-- What the run leaves in output 4's staging buffer: its pieces read back over junk. -/
def out0_A_4 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) : Vec F S1024x768 .bf16 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).1)

/-- The run's pieces for output 5 tile its block (1 store of `S1024x768`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) (y : S1024x768.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.1 S32x128.size (by sl_kernel_rfl) y

/-- What the run leaves in output 5's staging buffer: its pieces read back over junk. -/
def out0_A_5 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) : Vec F S1024x768 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.1)

/-- The run's pieces for output 6 tile its block (1 store of `S1024x768`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) (y : S1024x768.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.1 S32x128.size (by sl_kernel_rfl) y

/-- What the run leaves in output 6's staging buffer: its pieces read back over junk. -/
def out0_A_6 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) : Vec F S1024x768 .i8 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.1)

/-- The run's pieces for output 7 tile its block (1 store of `S8x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.1 S1x128.size (by sl_kernel_rfl) y

/-- What the run leaves in output 7's staging buffer: its pieces read back over junk. -/
def out0_A_7 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) : Vec F S8x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.1)

/-- The run's pieces for output 8 tile its block (1 store of `S1024x768`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) (y : S1024x768.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.2.1 S32x128.size (by sl_kernel_rfl) y

/-- What the run leaves in output 8's staging buffer: its pieces read back over junk. -/
def out0_A_8 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) : Vec F S1024x768 .i8 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.2.1)

/-- The run's pieces for output 9 tile its block (1 store of `S8x128`, checked by the kernel's evaluation: Lib/Ring.lean `Piece.tiledL`, linear in the pieces, through a loop's `@[irreducible]` trip theorem too), so they cover it. -/
theorem cover0_A_9 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.2.2.1 S1x128.size (by sl_kernel_rfl) y

/-- What the run leaves in output 9's staging buffer: its pieces read back over junk. -/
def out0_A_9 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) : Vec F S8x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1024x768 .bf16 × Vec F S1024x768 .f32 × Vec F S1024x768 .i8 × Vec F S8x128 .f32 × Vec F S1024x768 .i8 × Vec F S8x128 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0))

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the inputs run in place
    at their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t).1
    | ⟨5, _⟩ => (outsAt0 m c t).2.1
    | ⟨6, _⟩ => (outsAt0 m c t).2.2.1
    | ⟨7, _⟩ => (outsAt0 m c t).2.2.2.1
    | ⟨8, _⟩ => (outsAt0 m c t).2.2.2.2.1
    | ⟨9, _⟩ => (outsAt0 m c t).2.2.2.2.2
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t).1 := by dsimp only [dats]
theorem after0_5 (c : Dev nD) (t : Fin cfg0.N) : (dats m 0 c).after 5 t = (outsAt0 m c t).2.1 := by dsimp only [dats]
theorem after0_6 (c : Dev nD) (t : Fin cfg0.N) : (dats m 0 c).after 6 t = (outsAt0 m c t).2.2.1 := by dsimp only [dats]
theorem after0_7 (c : Dev nD) (t : Fin cfg0.N) : (dats m 0 c).after 7 t = (outsAt0 m c t).2.2.2.1 := by dsimp only [dats]
theorem after0_8 (c : Dev nD) (t : Fin cfg0.N) : (dats m 0 c).after 8 t = (outsAt0 m c t).2.2.2.2.1 := by dsimp only [dats]
theorem after0_9 (c : Dev nD) (t : Fin cfg0.N) : (dats m 0 c).after 9 t = (outsAt0 m c t).2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1200000 in
/-- The body at any point: the inputs' memrefs hold their blocks (`before0_W`); so the
    run applies; the invariant (`PhiD0_eq`) hands the body its scratch, the register, the inputs run in place, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    after0_0, after0_1, after0_2, after0_3, after0_4, after0_5, after0_6, after0_7, after0_8, after0_9]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outsAt0
  unfold out0_A_4 out0_A_5 out0_A_6 out0_A_7 out0_A_8 out0_A_9; (try dsimp only)
  iintro ⟨⟨⟨HS0, HS1, HS2, HS3⟩, Hg, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ _ _ (iblk m c 0 t) (iblk m c 1 t) (iblk m c 2 t) (iblk m c 3 t) (V m c main_arg0)).2.2.2.2.2.2.2.2.2 W _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [Hh0]; · iexact Hh0
  isplitl [HW]; · iexact HW
  iintro ⟨H0, H1, H2, H3, ⟨%e4, H4⟩, ⟨%e5, H5⟩, ⟨%e6, H6⟩, ⟨%e7, H7⟩, ⟨%e8, H8⟩, ⟨%e9, H9⟩, ⟨%fT0, HS0⟩, ⟨%fT1, HS1⟩, ⟨%fT2, HS2⟩, HS3, Hh0, ⟨%W', HW'⟩⟩
  isplitl [HS0 HS1 HS2 HS3 Hg Hh0]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      iexact HS3
    isplitl [Hg]
    · iexact Hg
    isplitr; · iempintro
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.Kernel

end
-- ==== Proof.KernelIdealRuns.lean ====
/- What the body run is stated over: the arrays at the launch, the windows' blocks, the staging and scratch memrefs, the invariant. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The kernel body on any staging memrefs: a subtype the run finds -/

/-- One staging buffer of output window 4, through which its contents are stated (`View.read_writes_of_cover`: the
    choice does not matter). -/
abbrev VO0_4 : View sig .tc .vmem S1024x768 .bf16 := (Memref.whole cc0_stg4_0 : Memref sig .tc .vmem S1024x768 .bf16).view
/-- One staging buffer of output window 5, through which its contents are stated (`View.read_writes_of_cover`: the
    choice does not matter). -/
abbrev VO0_5 : View sig .tc .vmem S1024x768 .f32 := (Memref.whole cc0_stg5_0 : Memref sig .tc .vmem S1024x768 .f32).view
/-- One staging buffer of output window 6, through which its contents are stated (`View.read_writes_of_cover`: the
    choice does not matter). -/
abbrev VO0_6 : View sig .tc .vmem S1024x768 .i8 := (Memref.whole cc0_stg6_0 : Memref sig .tc .vmem S1024x768 .i8).view
/-- One staging buffer of output window 7, through which its contents are stated (`View.read_writes_of_cover`: the
    choice does not matter). -/
abbrev VO0_7 : View sig .tc .vmem S8x128 .f32 := (Memref.whole cc0_stg7_0 : Memref sig .tc .vmem S8x128 .f32).view
/-- One staging buffer of output window 8, through which its contents are stated (`View.read_writes_of_cover`: the
    choice does not matter). -/
abbrev VO0_8 : View sig .tc .vmem S1024x768 .i8 := (Memref.whole cc0_stg8_0 : Memref sig .tc .vmem S1024x768 .i8).view
/-- One staging buffer of output window 9, through which its contents are stated (`View.read_writes_of_cover`: the
    choice does not matter). -/
abbrev VO0_9 : View sig .tc .vmem S8x128 .f32 := (Memref.whole cc0_stg9_0 : Memref sig .tc .vmem S8x128 .f32).view
/-- Each window's current staging memref at point `t`, spelled as the pipeline passes it (`bodyAt0`), and its wholeness. -/
abbrev ms0_0 (t : Fin cfg0.N) : Memref sig .tc .vmem S1024x768 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x768 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x768 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S8x128 .f32 := Memref.whole cc0_scratch0
abbrev scM0_1 : Memref sig .tc .vmem S128x128 .f32 := Memref.whole cc0_scratch1
abbrev scM0_2 : Memref sig .tc .vmem S128x128 .f32 := Memref.whole cc0_scratch2
abbrev scM0_3 : Memref sig .tc .vmem S128x128 .f32 := Memref.whole cc0_scratch3
/-- The operands and results RUN IN PLACE: their own VMEM buffers, whole. -/
abbrev hbM0_0 : Memref sig .tc .vmem S73728x128 .f32 := Memref.whole main_arg0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The kernel has no DMA semaphore of its own: the empty family (`Pipeline.OwnSemFacts` holds of it vacuously). -/
abbrev osem0 : Fin 0 → SemLoc sig := fun j => (![] : Fin 0 → SemLoc sig) j
theorem ownSemFacts0 : Pipeline.OwnSemFacts spec0 osem0 := by decide
/-- The cells at zero, listed (none: `emp`). -/
theorem ownSems00_eq (c : Dev nD) :
    (Pipeline.ownSems0 (Ix := Unit) (Name := ℕ) (U := Pipeline.UD sig nD τ) (Lvl := ℕ) (Val := Elt F) (τ := τ) osem0 c : sProp 𝕄)
      = iprop(emp) := by
  rw [Pipeline.ownSems0_eq_of_list c osem0 [] (by decide) (by decide)]; rfl
/-- The inputs run in place, which the body only loads, as references: unscoped, no window's array (`Pipeline.restRefs`). -/
def H0 : Finset (Ref sig .tc) := {main_arg0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body whose inputs run in place (and, when it has transfers of its own, that copies HBM operands),
    `Pipeline.ΦD`, conjunct by conjunct: the scratch operands owned at some contents, the generator register at some state, the
    own cells at zero, those buffers at their launch contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(emp) ∗ iprop(hbPt0 c hbM0_0 (V m c main_arg0))) := by
  rw [Pipeline.ΦD_eq, scopedRest0_eq, ownSems00_eq, hbmPts0_eq]; simp only [scM0_0, scM0_1, scM0_2, scM0_3, owns_whole]; try rfl

end Cert.Proof.KernelIdeal

end
-- ==== Proof.KernelIdealTrip.lean ====
module

public import proofs.«01_k».proof.Proof.Gen.KernelIdeal.Loops
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Ring
public import Idealize.ShloMosaic.Lib.Claim

@[expose] public section

set_option maxRecDepth 65536
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One trip's resources: what the region reads at its contents, what it writes at any. -/
abbrev Trip (c : Dev nD) (arg1 : Memref sig .tc .vmem S73728x128 .f32) (arg2 : Memref sig .tc .vmem S1024x768 .i32) (arg3 : Memref sig .tc .vmem S8x128 .f32) (arg4 : Memref sig .tc .vmem S8x128 .f32) (arg12 : Memref sig .tc .vmem S8x128 .f32) (arg6 : Memref sig .tc .vmem S1024x768 .bf16) (arg7 : Memref sig .tc .vmem S1024x768 .f32) (arg8 : Memref sig .tc .vmem S1024x768 .i8) (arg9 : Memref sig .tc .vmem S8x128 .f32) (arg10 : Memref sig .tc .vmem S1024x768 .i8) (arg11 : Memref sig .tc .vmem S8x128 .f32) (arg13 : Memref sig .tc .vmem S128x128 .f32) (arg14 : Memref sig .tc .vmem S128x128 .f32) (arg15 : Memref sig .tc .vmem S128x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) : sProp 𝕄 :=
  iprop((arg1.view.loc (c : Thread nD τ) ↦{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg12.view.loc (c : Thread nD τ) ↦[arg12.view.set]{fullShare} X_arg12) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15))

/-- One trip at a symbolic `k`: the pieces it writes into each memref are what the run finds. They depend on what the
trip reads only, never on what it finds in the memrefs it writes. -/
@[irreducible] def trip (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (k : Fin k0_t1_loop.trips) :
    Σ' (L_arg6 : List (View.Piece (Elt F) S1024x768 .bf16)) (L_arg7 : List (View.Piece (Elt F) S1024x768 .f32)) (L_arg8 : List (View.Piece (Elt F) S1024x768 .i8)) (L_arg9 : List (View.Piece (Elt F) S8x128 .f32)) (L_arg10 : List (View.Piece (Elt F) S1024x768 .i8)) (L_arg11 : List (View.Piece (Elt F) S8x128 .f32)) (L_arg13 : List (View.Piece (Elt F) S128x128 .f32)) (L_arg14 : List (View.Piece (Elt F) S128x128 .f32)), {L_arg15 : List (View.Piece (Elt F) S128x128 .f32) //
      ∀ (E : Set ℕ) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg13 : BufTy.Contents (Elt F) arg13.view.ty) (f_arg14 : BufTy.Contents (Elt F) arg14.view.ty) (f_arg15 : BufTy.Contents (Elt F) arg15.view.ty),
      Trip (F := F) c arg1 arg2 arg3 arg4 arg12 arg6 arg7 arg8 arg9 arg10 arg11 arg13 arg14 arg15 X_arg1 X_arg2 X_arg3 X_arg4 X_arg12 f_arg6 f_arg7 f_arg8 f_arg9 f_arg10 f_arg11 f_arg13 f_arg14 f_arg15
      ⊢ wp frame (wpE (defs₀ (F := F)) 𝒱 (c : Thread nD τ) bd) E (Gen.k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k PUnit.unit)
          (fun _ => Trip (F := F) c arg1 arg2 arg3 arg4 arg12 arg6 arg7 arg8 arg9 arg10 arg11 arg13 arg14 arg15 X_arg1 X_arg2 X_arg3 X_arg4 X_arg12 (arg6.view.writes (Elt F) f_arg6 L_arg6) (arg7.view.writes (Elt F) f_arg7 L_arg7) (arg8.view.writes (Elt F) f_arg8 L_arg8) (arg9.view.writes (Elt F) f_arg9 L_arg9) (arg10.view.writes (Elt F) f_arg10 L_arg10) (arg11.view.writes (Elt F) f_arg11 L_arg11) (arg13.view.writes (Elt F) f_arg13 L_arg13) (arg14.view.writes (Elt F) f_arg14 L_arg14) (arg15.view.writes (Elt F) f_arg15 L_arg15))} := by
  have hk : k.val < 8 := Nat.lt_of_lt_of_le k.isLt k0_t1_abs.2.1
  refine ⟨?_, ?_, ?_, ?_, ?_, ?_, ?_, ?_, ?_, fun E f_arg6 f_arg7 f_arg8 f_arg9 f_arg10 f_arg11 f_arg13 f_arg14 f_arg15 => ?run⟩
  case run =>
    unfold Gen.k0_t1_body
    iintro ⟨HR_arg1, HR_arg2, HR_arg3, HR_arg4, HR_arg12, HW_arg6, HW_arg7, HW_arg8, HW_arg9, HW_arg10, HW_arg11, HW_arg13, HW_arg14, HW_arg15⟩
    sl_exec
    sl_step
    sl_close

/-- Trip `k`'s pieces, per written memref. -/
abbrev tripL (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (k : Fin k0_t1_loop.trips) : List (View.Piece (Elt F) S1024x768 .bf16) × List (View.Piece (Elt F) S1024x768 .f32) × List (View.Piece (Elt F) S1024x768 .i8) × List (View.Piece (Elt F) S8x128 .f32) × List (View.Piece (Elt F) S1024x768 .i8) × List (View.Piece (Elt F) S8x128 .f32) × List (View.Piece (Elt F) S128x128 .f32) × List (View.Piece (Elt F) S128x128 .f32) × List (View.Piece (Elt F) S128x128 .f32) :=
  ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.2.2.1)

/-- The pieces of the trips before `k` with trip `k`'s in front. -/
@[irreducible] def pbStep (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (k : Nat) (prev : List (View.Piece (Elt F) S1024x768 .bf16) × List (View.Piece (Elt F) S1024x768 .f32) × List (View.Piece (Elt F) S1024x768 .i8) × List (View.Piece (Elt F) S8x128 .f32) × List (View.Piece (Elt F) S1024x768 .i8) × List (View.Piece (Elt F) S8x128 .f32) × List (View.Piece (Elt F) S128x128 .f32) × List (View.Piece (Elt F) S128x128 .f32) × List (View.Piece (Elt F) S128x128 .f32)) : List (View.Piece (Elt F) S1024x768 .bf16) × List (View.Piece (Elt F) S1024x768 .f32) × List (View.Piece (Elt F) S1024x768 .i8) × List (View.Piece (Elt F) S8x128 .f32) × List (View.Piece (Elt F) S1024x768 .i8) × List (View.Piece (Elt F) S8x128 .f32) × List (View.Piece (Elt F) S128x128 .f32) × List (View.Piece (Elt F) S128x128 .f32) × List (View.Piece (Elt F) S128x128 .f32) :=
  if h : k < k0_t1_loop.trips then
    ((tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).1 ++ prev.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).2.1 ++ prev.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).2.2.1 ++ prev.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).2.2.2.1 ++ prev.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).2.2.2.2.1 ++ prev.2.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).2.2.2.2.2.1 ++ prev.2.2.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).2.2.2.2.2.2.1 ++ prev.2.2.2.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).2.2.2.2.2.2.2.1 ++ prev.2.2.2.2.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 ⟨k, h⟩).2.2.2.2.2.2.2.2 ++ prev.2.2.2.2.2.2.2.2)
  else prev

/-- The pieces of the trips before `k` (last first), per written memref. -/
def pb (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) : Nat → List (View.Piece (Elt F) S1024x768 .bf16) × List (View.Piece (Elt F) S1024x768 .f32) × List (View.Piece (Elt F) S1024x768 .i8) × List (View.Piece (Elt F) S8x128 .f32) × List (View.Piece (Elt F) S1024x768 .i8) × List (View.Piece (Elt F) S8x128 .f32) × List (View.Piece (Elt F) S128x128 .f32) × List (View.Piece (Elt F) S128x128 .f32) × List (View.Piece (Elt F) S128x128 .f32)
  | 0 => ([], [], [], [], [], [], [], [], [])
  | k + 1 => pbStep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k (pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k)

theorem pb_succ (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (k : Fin k0_t1_loop.trips) :
    pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 (k.val + 1) = ((tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).1 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.1 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.1 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.1 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.1 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).2.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.1 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).2.2.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.1 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).2.2.2.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.2.1 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).2.2.2.2.2.2.2.1, (tripL (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.2.2 ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k.val).2.2.2.2.2.2.2.2) := by
  rw [pb.eq_2]; unfold pbStep; exact dif_pos k.isLt

/-- The invariant before trip `k`: what is read at its contents, each written memref holding the pieces of the trips
before `k` over what it held at loop entry. -/
abbrev inv (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (G_arg6 : BufTy.Contents (Elt F) arg6.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg14 : BufTy.Contents (Elt F) arg14.view.ty) (G_arg15 : BufTy.Contents (Elt F) arg15.view.ty) (k : Nat) : sProp 𝕄 :=
  iprop((arg1.view.loc (c : Thread nD τ) ↦{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg12.view.loc (c : Thread nD τ) ↦[arg12.view.set]{fullShare} X_arg12) ∗ (∃ f, (arg6.view.loc (c : Thread nD τ) ↦[arg6.view.set]{fullShare} f) ∗ ⌜f = arg6.view.writes (Elt F) G_arg6 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).1⌝) ∗ (∃ f, (arg7.view.loc (c : Thread nD τ) ↦[arg7.view.set]{fullShare} f) ∗ ⌜f = arg7.view.writes (Elt F) G_arg7 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.1⌝) ∗ (∃ f, (arg8.view.loc (c : Thread nD τ) ↦[arg8.view.set]{fullShare} f) ∗ ⌜f = arg8.view.writes (Elt F) G_arg8 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.1⌝) ∗ (∃ f, (arg9.view.loc (c : Thread nD τ) ↦[arg9.view.set]{fullShare} f) ∗ ⌜f = arg9.view.writes (Elt F) G_arg9 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.1⌝) ∗ (∃ f, (arg10.view.loc (c : Thread nD τ) ↦[arg10.view.set]{fullShare} f) ∗ ⌜f = arg10.view.writes (Elt F) G_arg10 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.1⌝) ∗ (∃ f, (arg11.view.loc (c : Thread nD τ) ↦[arg11.view.set]{fullShare} f) ∗ ⌜f = arg11.view.writes (Elt F) G_arg11 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.1⌝) ∗ (∃ f, (arg13.view.loc (c : Thread nD τ) ↦[arg13.view.set]{fullShare} f) ∗ ⌜f = arg13.view.writes (Elt F) G_arg13 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.1⌝) ∗ (∃ f, (arg14.view.loc (c : Thread nD τ) ↦[arg14.view.set]{fullShare} f) ∗ ⌜f = arg14.view.writes (Elt F) G_arg14 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.2.1⌝) ∗ (∃ f, (arg15.view.loc (c : Thread nD τ) ↦[arg15.view.set]{fullShare} f) ∗ ⌜f = arg15.view.writes (Elt F) G_arg15 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.2.2⌝))

set_option warn.classDefReducibility false in
/-- The loop by its invariant. -/
@[sl_loop] def loopInv (𝒱 : Variants) (c : Dev nD) (bd : Option 𝒱.V) (E : Set ℕ) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (G_arg6 : BufTy.Contents (Elt F) arg6.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg13 : BufTy.Contents (Elt F) arg13.view.ty) (G_arg14 : BufTy.Contents (Elt F) arg14.view.ty) (G_arg15 : BufTy.Contents (Elt F) arg15.view.ty) :
    Gen.LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 where
  inv := fun k _ => inv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 G_arg6 G_arg7 G_arg8 G_arg9 G_arg10 G_arg11 G_arg13 G_arg14 G_arg15 k
  step k acc := by
    iintro ⟨HR_arg1, HR_arg2, HR_arg3, HR_arg4, HR_arg12, ⟨%f_arg6, HW_arg6, %h_arg6⟩, ⟨%f_arg7, HW_arg7, %h_arg7⟩, ⟨%f_arg8, HW_arg8, %h_arg8⟩, ⟨%f_arg9, HW_arg9, %h_arg9⟩, ⟨%f_arg10, HW_arg10, %h_arg10⟩, ⟨%f_arg11, HW_arg11, %h_arg11⟩, ⟨%f_arg13, HW_arg13, %h_arg13⟩, ⟨%f_arg14, HW_arg14, %h_arg14⟩, ⟨%f_arg15, HW_arg15, %h_arg15⟩⟩
    iapply (wp_wand_r Idealize.ShloMosaic.frame (wpE (defs₀ (F := F)) 𝒱 (c : Thread nD τ) bd) E)
    isplitl [HR_arg1 HR_arg2 HR_arg3 HR_arg4 HR_arg12 HW_arg6 HW_arg7 HW_arg8 HW_arg9 HW_arg10 HW_arg11 HW_arg13 HW_arg14 HW_arg15]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.2.2.2.2 E f_arg6 f_arg7 f_arg8 f_arg9 f_arg10 f_arg11 f_arg13 f_arg14 f_arg15)

      isplitl [HR_arg1]; · iexact HR_arg1
      isplitl [HR_arg2]; · iexact HR_arg2
      isplitl [HR_arg3]; · iexact HR_arg3
      isplitl [HR_arg4]; · iexact HR_arg4
      isplitl [HR_arg12]; · iexact HR_arg12
      isplitl [HW_arg6]; · iexact HW_arg6
      isplitl [HW_arg7]; · iexact HW_arg7
      isplitl [HW_arg8]; · iexact HW_arg8
      isplitl [HW_arg9]; · iexact HW_arg9
      isplitl [HW_arg10]; · iexact HW_arg10
      isplitl [HW_arg11]; · iexact HW_arg11
      isplitl [HW_arg13]; · iexact HW_arg13
      isplitl [HW_arg14]; · iexact HW_arg14
      iexact HW_arg15
    · iintro %_ ⟨HR_arg1, HR_arg2, HR_arg3, HR_arg4, HR_arg12, HW_arg6, HW_arg7, HW_arg8, HW_arg9, HW_arg10, HW_arg11, HW_arg13, HW_arg14, HW_arg15⟩
      isplitl [HR_arg1]; · iexact HR_arg1
      isplitl [HR_arg2]; · iexact HR_arg2
      isplitl [HR_arg3]; · iexact HR_arg3
      isplitl [HR_arg4]; · iexact HR_arg4
      isplitl [HR_arg12]; · iexact HR_arg12
      rw [pb_succ]
      isplitl [HW_arg6]
      · iexists _; isplitl [HW_arg6]; · iexact HW_arg6
        ipureintro; rw [h_arg6, ← View.writes_append]
      isplitl [HW_arg7]
      · iexists _; isplitl [HW_arg7]; · iexact HW_arg7
        ipureintro; rw [h_arg7, ← View.writes_append]
      isplitl [HW_arg8]
      · iexists _; isplitl [HW_arg8]; · iexact HW_arg8
        ipureintro; rw [h_arg8, ← View.writes_append]
      isplitl [HW_arg9]
      · iexists _; isplitl [HW_arg9]; · iexact HW_arg9
        ipureintro; rw [h_arg9, ← View.writes_append]
      isplitl [HW_arg10]
      · iexists _; isplitl [HW_arg10]; · iexact HW_arg10
        ipureintro; rw [h_arg10, ← View.writes_append]
      isplitl [HW_arg11]
      · iexists _; isplitl [HW_arg11]; · iexact HW_arg11
        ipureintro; rw [h_arg11, ← View.writes_append]
      isplitl [HW_arg13]
      · iexists _; isplitl [HW_arg13]; · iexact HW_arg13
        ipureintro; rw [h_arg13, ← View.writes_append]
      isplitl [HW_arg14]
      · iexists _; isplitl [HW_arg14]; · iexact HW_arg14
        ipureintro; rw [h_arg14, ← View.writes_append]
      iexists _; isplitl [HW_arg15]; · iexact HW_arg15
      ipureintro; rw [h_arg15, ← View.writes_append]

end Cert.Proof.KernelIdeal

end
-- ==== Proof.KernelIdealRunA.lean ====
/- The run of the whole body: what it leaves in each output window, as pieces. -/
module

public import proofs.«01_k».proof.Proof.KernelIdealRuns
public import proofs.«01_k».proof.Proof.KernelIdealTrip

@[expose] public section

-- membership in a rectangle of production extents (`View.cover_of_tiled`): the elaborator's structural look
-- recurses once per coordinate of the long axes
set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first), WITH the
    proof that on whole staging memrefs — the inputs' at their contents, the other outputs' at
    anything, the scratch buffers at anything, the buffers run in place whole — the inputs' at their launch contents `fh·`, the results' at some contents —, and the core's `owes`, the body runs to the continuation holding the inputs' as they were,
    a scratch it stored into and does not carry with its pieces (`LT·`) written over some contents, the other scratch at some contents, the inputs run in place as they were, the results run in place at some contents (what its stores left there), the waits recorded in `owes`, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) :
    Σ' (L4 : List (View.Piece (Elt F) S1024x768 .bf16)), Σ' (L5 : List (View.Piece (Elt F) S1024x768 .f32)), Σ' (L6 : List (View.Piece (Elt F) S1024x768 .i8)), Σ' (L7 : List (View.Piece (Elt F) S8x128 .f32)), Σ' (L8 : List (View.Piece (Elt F) S1024x768 .i8)), Σ' (L9 : List (View.Piece (Elt F) S8x128 .f32)), Σ' (LT0 : List (View.Piece (Elt F) S8x128 .f32)), Σ' (LT1 : List (View.Piece (Elt F) S128x128 .f32)), { LT2 : List (View.Piece (Elt F) S128x128 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (∃ d, owns (c : Thread nD τ) arg15 fullShare d) ∗ hbPt0 c hbM0_0 fh0 ∗ (∃ W', owes (c : Thread nD τ) 0 W')) -∗ K ⟨⟩))
          ⊢ wp frame (wpE (defs₀ (F := F)) Variants.none c none) Set.univ (cc0_adam_update i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, fun W K => ?run⟩
  case run =>
    simp only [cc0_adam_update_eq_skeleton]; unfold cc0_adam_update_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hh0, HW, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    isplitl [HS3]
    · iexists _, _; isplitr; swap; · iexact HS3
      ipureintro; rfl
    isplitl [Hh0]; · iexact Hh0
    iexists _; iexact HW

end Cert.Proof.KernelIdeal

end
-- ==== Proof.KernelIdealFrame.lean ====
/- The launch: the windows' contents point by point, the body obligation, the run, the frame. -/
module

public import proofs.«01_k».proof.Proof.KernelIdealRunA
public import Idealize.ShloMosaic.Lib.Claim

@[expose] public section

-- membership in a rectangle of production extents (`View.cover_of_tiled`): the elaborator's structural look
-- recurses once per coordinate of the long axes
set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The run's pieces for output 4 tile its block (1 store of `S1024x768`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) (y : S1024x768.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).1 S32x128.size (by sl_kernel_rfl) y

/-- What the run leaves in output 4's staging buffer: its pieces read back over junk. -/
def out0_A_4 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) : Vec F S1024x768 .bf16 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).1)

/-- The run's pieces for output 5 tile its block (1 store of `S1024x768`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) (y : S1024x768.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.1 S32x128.size (by sl_kernel_rfl) y

/-- What the run leaves in output 5's staging buffer: its pieces read back over junk. -/
def out0_A_5 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) : Vec F S1024x768 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.1)

/-- The run's pieces for output 6 tile its block (1 store of `S1024x768`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) (y : S1024x768.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.1 S32x128.size (by sl_kernel_rfl) y

/-- What the run leaves in output 6's staging buffer: its pieces read back over junk. -/
def out0_A_6 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) : Vec F S1024x768 .i8 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.1)

/-- The run's pieces for output 7 tile its block (1 store of `S8x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.1 S1x128.size (by sl_kernel_rfl) y

/-- What the run leaves in output 7's staging buffer: its pieces read back over junk. -/
def out0_A_7 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) : Vec F S8x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.1)

/-- The run's pieces for output 8 tile its block (1 store of `S1024x768`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) (y : S1024x768.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.2.1 S32x128.size (by sl_kernel_rfl) y

/-- What the run leaves in output 8's staging buffer: its pieces read back over junk. -/
def out0_A_8 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) : Vec F S1024x768 .i8 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.2.1)

/-- The run's pieces for output 9 tile its block (1 store of `S8x128`, checked by the kernel's evaluation: Lib/Ring.lean `Piece.tiledL`, linear in the pieces, through a loop's `@[irreducible]` trip theorem too), so they cover it. -/
theorem cover0_A_9 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.2.2.1 S1x128.size (by sl_kernel_rfl) y

/-- What the run leaves in output 9's staging buffer: its pieces read back over junk. -/
def out0_A_9 (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S1024x768 .i32) (x1 : Vec F S8x128 .f32) (x2 : Vec F S8x128 .f32) (x3 : Vec F S8x128 .i32) (fh0 : HbBuf0 (F := F) c hbM0_0) : Vec F S8x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1024x768 .bf16 × Vec F S1024x768 .f32 × Vec F S1024x768 .i8 × Vec F S8x128 .f32 × Vec F S1024x768 .i8 × Vec F S8x128 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0))

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the inputs run in place
    at their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t).1
    | ⟨5, _⟩ => (outsAt0 m c t).2.1
    | ⟨6, _⟩ => (outsAt0 m c t).2.2.1
    | ⟨7, _⟩ => (outsAt0 m c t).2.2.2.1
    | ⟨8, _⟩ => (outsAt0 m c t).2.2.2.2.1
    | ⟨9, _⟩ => (outsAt0 m c t).2.2.2.2.2
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t).1 := by dsimp only [dats]
theorem after0_5 (c : Dev nD) (t : Fin cfg0.N) : (dats m 0 c).after 5 t = (outsAt0 m c t).2.1 := by dsimp only [dats]
theorem after0_6 (c : Dev nD) (t : Fin cfg0.N) : (dats m 0 c).after 6 t = (outsAt0 m c t).2.2.1 := by dsimp only [dats]
theorem after0_7 (c : Dev nD) (t : Fin cfg0.N) : (dats m 0 c).after 7 t = (outsAt0 m c t).2.2.2.1 := by dsimp only [dats]
theorem after0_8 (c : Dev nD) (t : Fin cfg0.N) : (dats m 0 c).after 8 t = (outsAt0 m c t).2.2.2.2.1 := by dsimp only [dats]
theorem after0_9 (c : Dev nD) (t : Fin cfg0.N) : (dats m 0 c).after 9 t = (outsAt0 m c t).2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1200000 in
/-- The body at any point: the inputs' memrefs hold their blocks (`before0_W`); so the
    run applies; the invariant (`PhiD0_eq`) hands the body its scratch, the register, the inputs run in place, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    after0_0, after0_1, after0_2, after0_3, after0_4, after0_5, after0_6, after0_7, after0_8, after0_9]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outsAt0
  unfold out0_A_4 out0_A_5 out0_A_6 out0_A_7 out0_A_8 out0_A_9; (try dsimp only)
  iintro ⟨⟨⟨HS0, HS1, HS2, HS3⟩, Hg, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ _ _ (iblk m c 0 t) (iblk m c 1 t) (iblk m c 2 t) (iblk m c 3 t) (V m c main_arg0)).2.2.2.2.2.2.2.2.2 W _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [Hh0]; · iexact Hh0
  isplitl [HW]; · iexact HW
  iintro ⟨H0, H1, H2, H3, ⟨%e4, H4⟩, ⟨%e5, H5⟩, ⟨%e6, H6⟩, ⟨%e7, H7⟩, ⟨%e8, H8⟩, ⟨%e9, H9⟩, ⟨%fT0, HS0⟩, ⟨%fT1, HS1⟩, ⟨%fT2, HS2⟩, HS3, Hh0, ⟨%W', HW'⟩⟩
  isplitl [HS0 HS1 HS2 HS3 Hg Hh0]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      iexact HS3
    isplitl [Hg]
    · iexact Hg
    isplitr; · iempintro
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.KernelIdeal

end
-- ==== Proof.KernelIdealLists.lean ====
module

public import proofs.«01_k».proof.Proof.KernelIdealTrip

@[expose] public section

set_option maxRecDepth 65536
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL.Sem

/-! # The pieces one trip writes, as a family over the row group and the column chunk

A trip handles 128 rows in four groups of 32 rows and, in each group, six chunks of 128 columns. Each definition below is
the value the printed body computes at group `j` and chunk `c`; the lists the run finds are these families listed. -/

variable {F : FTy → Type} [FloatOps F]

/-- The first row of group `j` of trip `k` and the first column of chunk `c`, in a block. -/
def offK (k : Fin k0_t1_loop.trips) (j : Fin 4) (c : Fin 6) : Fin 2 → Nat :=
  ![k0_off3 k (BitVec.ofNat 32 (32 * j.val)) 0, 128 * c.val]

theorem offK_row : ∀ (k : Fin k0_t1_loop.trips) (j : Fin 4) (c : Fin 6), offK k j c 0 = 128 * k.val + 32 * j.val := by
  decide +kernel

theorem offK_col (k : Fin k0_t1_loop.trips) (j : Fin 4) (c : Fin 6) : offK k j c 1 = 128 * c.val := rfl

theorem offK_inb : ∀ (k : Fin k0_t1_loop.trips) (j : Fin 4) (c : Fin 6), ∀ a, offK k j c a + S32x128.size a ≤ S1024x768.size a := by
  decide +kernel

theorem off1_row : ∀ k : Fin k0_t1_loop.trips, k0_off1 k 0 = k.val := by decide +kernel

theorem off1_col (k : Fin k0_t1_loop.trips) : k0_off1 k 1 = 0 := rfl

theorem off2_row : ∀ (i : grid0.Coords) (k : Fin k0_t1_loop.trips) (j : Fin 4) (c : Fin 6),
    k0_off2 i k (BitVec.ofNat 32 (32 * j.val)) (BitVec.ofNat 32 c.val) 0 = 6 * (1024 * (i 0).val + 128 * k.val + 32 * j.val) + c.val := by
  decide +kernel

theorem off2_col (i : grid0.Coords) (k : Fin k0_t1_loop.trips) (j : Fin 4) (c : Fin 6) :
    k0_off2 i k (BitVec.ofNat 32 (32 * j.val)) (BitVec.ofNat 32 c.val) 1 = 0 := rfl

/-- Group `j`, chunk `c`'s place in a block. -/
abbrev rectK (k : Fin k0_t1_loop.trips) (j : Fin 4) (c : Fin 6) : Rect S1024x768 :=
  Rect.unit (offK k j c) S32x128.size (offK_inb k j c)

theorem rows_inb : ∀ (j : Fin 4) (a : Fin 2), (![32 * j.val, 0] : Fin 2 → Nat) a + S32x128.size a ≤ S128x128.size a := by
  decide +kernel

/-- Group `j` of 128 per-row values laid out by `f`, from the row of trip `k`. -/
def perRow (f : Vec F S1x128 .f32 → FVec F S128x128 .f32) (src : Memref sig .tc .vmem S8x128 .f32) (scr : Memref sig .tc .vmem S128x128 .f32)
    (X : BufTy.Contents (Elt F) src.view.ty) (k : Fin k0_t1_loop.trips) (j : Fin 4) : Vec F S32x128 .f32 :=
  scr.view.readCov [⟨Rect.unit (s := S128x128) ![0, 0] S128x128.size inb_S128x128_S128x128_0_0,
      f (View.readAt (Elt F) src.view (Rect.unit (s := S8x128) (k0_off1 k) S1x128.size (k0_off1_inb k)).toLoadRect X)⟩]
    (Rect.unit (s := S128x128) ![32 * j.val, 0] S32x128.size (rows_inb j)).toLoadRect

/-- The gradients of group `j`, chunk `c`. -/
def gV (i : grid0.Coords) (arg1 : Memref sig .tc .vmem S73728x128 .f32) (X : BufTy.Contents (Elt F) arg1.view.ty)
    (k : Fin k0_t1_loop.trips) (j : Fin 4) (c : Fin 6) : Vec F S32x128 .f32 :=
  View.readAt (Elt F) arg1.view { off := k0_off2 i k (BitVec.ofNat 32 (32 * j.val)) (BitVec.ofNat 32 c.val), size := S32x128.size, stride := ![6, 1], inb := k0_off2_inb i k j c } X

/-- The packed words of group `j`, chunk `c`. -/
def xV (arg2 : Memref sig .tc .vmem S1024x768 .i32) (X : BufTy.Contents (Elt F) arg2.view.ty)
    (k : Fin k0_t1_loop.trips) (j : Fin 4) (c : Fin 6) : Vec F S32x128 .i32 :=
  View.readAt (Elt F) arg2.view (rectK k j c).toLoadRect X

/-- Group `j`'s rows on the diagonal of the 128 rows. -/
def diagV (j : Fin 4) : IVec S32x128 1 :=
  cmpi .eq (iota .tc S32x128 32 [1] iota_S32x128_d1_w32)
    (addi (iota .tc S32x128 32 [0] iota_S32x128_d0_w32) (broadcast S32x128 (BitVec.ofNat 32 (32 * j.val))))

/-- The update of a chunk from its step sizes, first and second moments. -/
def updC (s m v : FVec F S32x128 .f32) : FVec F S32x128 .f32 :=
  k0_pay14 s m (sqrt v) (Scalar.ofBits .f32 0x322BCC77#32)

/-- The new weights of a chunk. -/
def wC (s : FVec F S32x128 .f32) (x : Vec F S32x128 .i32) (m v : FVec F S32x128 .f32) : FVec F S32x128 .bf16 :=
  k0_pay15 s (k0_pay10 x) m (sqrt v) (Scalar.ofBits .f32 0x322BCC77#32)

/-- The row of scales the four groups leave. -/
def rowC (sc : Fin 4 → FVec F S32x1 .f32) : FVec F S1x128 .f32 :=
  addf (addf (addf (addf k0_pay7 (k0_pay56 (diagV 0) (sc 0))) (k0_pay56 (diagV 1) (sc 1))) (k0_pay56 (diagV 2) (sc 2))) (k0_pay56 (diagV 3) (sc 3))

/-- Six chunks' scale of each row. -/
def scC (m : Fin 6 → FVec F S32x128 .f32) : FVec F S32x1 .f32 := k0_pay57 (m 0) (m 1) (m 2) (m 3) (m 4) (m 5)

/-- The order the body stores the tiles in, last first. -/
abbrev tilesK : List (Fin 4 × Fin 6) :=
  [(3, 5), (3, 4), (3, 3), (3, 2), (3, 1), (3, 0), (2, 5), (2, 4), (2, 3), (2, 2), (2, 1), (2, 0),
   (1, 5), (1, 4), (1, 3), (1, 2), (1, 1), (1, 0), (0, 5), (0, 4), (0, 3), (0, 2), (0, 1), (0, 0)]

/-- A tile family as pieces. -/
abbrev piecesK {e : EltTy} (k : Fin k0_t1_loop.trips) (w : Fin 4 → Fin 6 → (S32x128.Idx → Elt F e)) : List (View.Piece (Elt F) S1024x768 e) :=
  tilesK.map fun jc => ⟨rectK k jc.1 jc.2, w jc.1 jc.2⟩

section Trip

/-- The first moments. -/
def mV (i : grid0.Coords) (arg1 : Memref sig .tc .vmem S73728x128 .f32) (arg2 : Memref sig .tc .vmem S1024x768 .i32) (arg3 : Memref sig .tc .vmem S8x128 .f32) (arg13 : Memref sig .tc .vmem S128x128 .f32) (X_arg1 : BufTy.Contents (Elt F) arg1.view.ty) (X_arg2 : BufTy.Contents (Elt F) arg2.view.ty) (X_arg3 : BufTy.Contents (Elt F) arg3.view.ty) (k : Fin k0_t1_loop.trips) (j : Fin 4) (c : Fin 6) : FVec F S32x128 .f32 :=
  k0_pay11 (perRow k0_pay4 arg3 arg13 X_arg3 k j) (gV i arg1 X_arg1 k j c) (xV arg2 X_arg2 k j c)

/-- The second moments. -/
def vV (i : grid0.Coords) (arg1 : Memref sig .tc .vmem S73728x128 .f32) (arg2 : Memref sig .tc .vmem S1024x768 .i32) (arg4 : Memref sig .tc .vmem S8x128 .f32) (arg14 : Memref sig .tc .vmem S128x128 .f32) (X_arg1 : BufTy.Contents (Elt F) arg1.view.ty) (X_arg2 : BufTy.Contents (Elt F) arg2.view.ty) (X_arg4 : BufTy.Contents (Elt F) arg4.view.ty) (k : Fin k0_t1_loop.trips) (j : Fin 4) (c : Fin 6) : FVec F S32x128 .f32 :=
  k0_pay12 (perRow k0_pay5 arg4 arg14 X_arg4 k j) (gV i arg1 X_arg1 k j c) (xV arg2 X_arg2 k j c)

theorem trip_arg6 (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (k : Fin k0_t1_loop.trips) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).1 = piecesK k fun j c => wC (perRow k0_pay6 arg12 arg15 X_arg12 k j) (xV arg2 X_arg2 k j c) (mV i arg1 arg2 arg3 arg13 X_arg1 X_arg2 X_arg3 k j c) (vV i arg1 arg2 arg4 arg14 X_arg1 X_arg2 X_arg4 k j c) := by
  sl_kernel_rfl

theorem trip_arg7 (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (k : Fin k0_t1_loop.trips) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.1 = piecesK k fun j c => updC (perRow k0_pay6 arg12 arg15 X_arg12 k j) (mV i arg1 arg2 arg3 arg13 X_arg1 X_arg2 X_arg3 k j c) (vV i arg1 arg2 arg4 arg14 X_arg1 X_arg2 X_arg4 k j c) := by
  sl_kernel_rfl

theorem trip_arg8 (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (k : Fin k0_t1_loop.trips) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.1 = piecesK (e := .i8) k fun j c => k0_pay58 (mV i arg1 arg2 arg3 arg13 X_arg1 X_arg2 X_arg3 k j c) (scC (mV i arg1 arg2 arg3 arg13 X_arg1 X_arg2 X_arg3 k j)) := by
  sl_kernel_rfl

theorem trip_arg9 (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (k : Fin k0_t1_loop.trips) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.1 = [⟨Rect.unit (k0_off1 k) S1x128.size (k0_off1_inb k), rowC fun j => scC (mV i arg1 arg2 arg3 arg13 X_arg1 X_arg2 X_arg3 k j)⟩] := by
  sl_kernel_rfl

theorem trip_arg10 (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (k : Fin k0_t1_loop.trips) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.1 = piecesK (e := .i8) k fun j c => k0_pay58 (vV i arg1 arg2 arg4 arg14 X_arg1 X_arg2 X_arg4 k j c) (scC (vV i arg1 arg2 arg4 arg14 X_arg1 X_arg2 X_arg4 k j)) := by
  sl_kernel_rfl

theorem trip_arg11 (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg12 : BufTy.Contents (Elt F) arg12.view.ty) (k : Fin k0_t1_loop.trips) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.1 = [⟨Rect.unit (k0_off1 k) S1x128.size (k0_off1_inb k), rowC fun j => scC (vV i arg1 arg2 arg4 arg14 X_arg1 X_arg2 X_arg4 k j)⟩] := by
  sl_kernel_rfl

end Trip

end Cert.Proof.KernelIdeal

end
-- ==== Proof.Spec.lean ====
/- The update step by step over the extended reals, as functions of the argument arrays: what both programs' results are. -/
module

public import Idealize.ShloMosaic.Lib.Pointwise

@[expose] public section

noncomputable section

namespace Cert.Proof.Spec

open Idealize.ShloMosaic

/-! ## One element -/

/-- The first moment: the decoded old one decayed, plus its share of the gradient. -/
def mS (a g : EReal) (x : BitVec 32) : EReal :=
  Ideal.ofBits .f32 1063675494#32 * ((FloatOps.sitofp (F := Ideal) .f32 ((IntOp.shrsi .vector x 8#32).setWidth 8) : EReal) * a)
    + Ideal.ofBits .f32 1036831952#32 * g

/-- The second moment: the decoded old one decayed, plus its share of the gradient's square. -/
def vS (a g : EReal) (x : BitVec 32) : EReal :=
  Ideal.ofBits .f32 1065336439#32 * ((FloatOps.sitofp (F := Ideal) .f32 (x.setWidth 8) : EReal) * a)
    + Ideal.ofBits .f32 981668352#32 * g * g

/-- The step size at step `n`: the learning rate with both bias corrections. -/
def stepS (n : BitVec 32) : EReal :=
  Ideal.div (Ideal.ofBits .f32 981668463#32 * Ideal.sqrt (1 - Ideal.pow (Ideal.ofBits .f32 1065336439#32) (FloatOps.sitofp (F := Ideal) .f32 n)))
    (1 - Ideal.pow (Ideal.ofBits .f32 1063675494#32) (FloatOps.sitofp (F := Ideal) .f32 n))

/-- The step taken. -/
def updS (s m v : EReal) : EReal := s * Ideal.div m (Ideal.sqrt v + Ideal.ofBits .f32 841731191#32)

/-- The new weight: the weight packed in the high half, less the step. -/
def wS (s m v : EReal) (x : BitVec 32) : EReal :=
  (Ideal.ofBits .bf16 ((IntOp.shrsi .vector x 16#32).setWidth 16) : EReal) - updS s m v

/-- The largest magnitude of a row. -/
def maxS (f : Fin 768 → EReal) : EReal :=
  Finset.fold max (Ideal.ofBits .f32 4286578688#32) (fun C => (FloatOps.absf (F := Ideal) (φ := .f32) (f C) : EReal)) Finset.univ

/-- A row's scale: its largest magnitude over 127, and one for a row of zeros. -/
def scaleS (f : Fin 768 → EReal) : EReal :=
  if maxS f = 0 then 1 else Ideal.div (maxS f) (Ideal.ofBits .f32 1123942400#32)

/-- A value's code at a scale: the nearest integer, to even, kept within -127 and 127. -/
def codeS (x s : EReal) : BitVec 8 :=
  FloatOps.fptosi (F := Ideal) (φ := .f32) 8 (min (((127#32).toInt : ℝ) : EReal) (max (((4294967169#32).toInt : ℝ) : EReal) (Ideal.liftRound Ideal.roundHalfEven (Ideal.div x s))))

/-! ## The arrays -/

/-- The gradient of row `R`, column `C`: six lines of 128 lanes make a row. -/
def gA (g : (⟨2, ![73728, 128]⟩ : Shape).Idx → EReal) (R : Fin 12288) (C : Fin 768) : EReal :=
  g (ix2 ⟨6 * R.val + C.val / 128, by omega⟩ ⟨C.val % 128, by omega⟩)

section
variable (g : (⟨2, ![73728, 128]⟩ : Shape).Idx → EReal) (x : (⟨2, ![12288, 768]⟩ : Shape).Idx → BitVec 32)
  (a : (⟨1, ![12288]⟩ : Shape).Idx → EReal)

/-- The first moments. -/
def mA (R : Fin 12288) (C : Fin 768) : EReal := mS (a (ix1 R)) (gA g R C) (x (ix2 R C))

/-- The second moments. -/
def vA (R : Fin 12288) (C : Fin 768) : EReal := vS (a (ix1 R)) (gA g R C) (x (ix2 R C))

variable (b : (⟨1, ![12288]⟩ : Shape).Idx → EReal) (st : (⟨1, ![12288]⟩ : Shape).Idx → BitVec 32)

/-- The steps taken. -/
def updA (R : Fin 12288) (C : Fin 768) : EReal := updS (stepS (st (ix1 R))) (mA g x a R C) (vA g x b R C)

/-- The new weights. -/
def wA (R : Fin 12288) (C : Fin 768) : EReal := wS (stepS (st (ix1 R))) (mA g x a R C) (vA g x b R C) (x (ix2 R C))

end

/-- The codes of rows `f`. -/
def codeA (f : Fin 12288 → Fin 768 → EReal) (R : Fin 12288) (C : Fin 768) : BitVec 8 := codeS (f R C) (scaleS (f R))

/-- A function of row and column as an array. -/
def tile {α : Type} (f : Fin 12288 → Fin 768 → α) : (⟨2, ![12288, 768]⟩ : Shape).Idx → α := fun y => f (y 0) (y 1)

/-- The rows' scales, 128 to a line. -/
def scales (f : Fin 12288 → Fin 768 → EReal) : (⟨2, ![96, 128]⟩ : Shape).Idx → EReal :=
  fun y => scaleS (f ⟨(y 0).val * 128 + (y 1).val, by
    have h0 : (y 0).val < 96 := (y 0).isLt
    have h1 : (y 1).val < 128 := (y 1).isLt
    omega⟩)

/-- Six chunks of 128 lanes folded chunkwise first are the 768 columns folded. -/
theorem fold_chunks (b : EReal) (F : Fin 6 → Fin 128 → EReal) (f : Fin 768 → EReal)
    (h : ∀ (c : Fin 6) (l : Fin 128), F c l = f ⟨128 * c.val + l.val, by omega⟩) :
    Finset.fold max b (fun l => max (max (max (max (max (F 0 l) (F 1 l)) (F 2 l)) (F 3 l)) (F 4 l)) (F 5 l)) Finset.univ
      = Finset.fold max b f Finset.univ := by
  refine eq_of_forall_ge_iff fun z => ?_
  rw [Finset.fold_max_le, Finset.fold_max_le]
  refine and_congr_right fun _ => ⟨fun H C _ => ?_, fun H l _ => ?_⟩
  · have := H ⟨C.val % 128, Nat.mod_lt _ (by decide)⟩ (Finset.mem_univ _)
    simp only [max_le_iff] at this
    have hc : ∀ c : Fin 6, F c ⟨C.val % 128, Nat.mod_lt _ (by decide)⟩ ≤ z := by
      intro c
      match c with
      | 0 => exact this.1.1.1.1.1
      | 1 => exact this.1.1.1.1.2
      | 2 => exact this.1.1.1.2
      | 3 => exact this.1.1.2
      | 4 => exact this.1.2
      | 5 => exact this.2
    have h2 := hc ⟨C.val / 128, by omega⟩
    rw [h] at h2
    refine le_of_eq_of_le (congrArg f (Fin.ext ?_)) h2
    show C.val = 128 * (C.val / 128) + C.val % 128
    omega
  · simp only [max_le_iff, h]
    exact ⟨⟨⟨⟨⟨H _ (Finset.mem_univ _), H _ (Finset.mem_univ _)⟩, H _ (Finset.mem_univ _)⟩, H _ (Finset.mem_univ _)⟩, H _ (Finset.mem_univ _)⟩, H _ (Finset.mem_univ _)⟩

end Cert.Proof.Spec

end
-- ==== Proof.SpecBits.lean ====
/- The packed words' halves and bytes, as the two programs read them. -/
module

public import Idealize.ShloMosaic.Lib.Pointwise

@[expose] public section

namespace Cert.Proof.Spec

open Idealize.ShloMosaic

/-- The byte above the lowest, sign extended by two shifts, is the truncated shift. -/
theorem high_byte (x : BitVec 32) :
    (IntOp.shrsi .vector (IntOp.shli .vector x 16#32) 24#32).toInt = ((IntOp.shrsi .vector x 8#32).setWidth 8).toInt := by
  have h : IntOp.shrsi .vector (IntOp.shli .vector x 16#32) 24#32 = ((IntOp.shrsi .vector x 8#32).setWidth 8).signExtend 32 := by
    simp only [IntOp.shrsi, IntOp.shli, BitVec.toNat_ofNat]
    norm_num
    ext i hi
    simp [BitVec.getElem_signExtend, BitVec.getElem_sshiftRight, BitVec.msb_eq_getLsbD_last, BitVec.getLsbD_sshiftRight]
    interval_cases i <;> simp
  rw [h, BitVec.toInt_signExtend_of_le (by decide)]

/-- The lowest byte, sign extended by two shifts, is the truncated word. -/
theorem low_byte (x : BitVec 32) :
    (IntOp.shrsi .vector (IntOp.shli .vector x 24#32) 24#32).toInt = (x.setWidth 8).toInt := by
  have h : IntOp.shrsi .vector (IntOp.shli .vector x 24#32) 24#32 = (x.setWidth 8).signExtend 32 := by
    simp only [IntOp.shrsi, IntOp.shli, BitVec.toNat_ofNat]
    norm_num
    ext i hi
    simp [BitVec.getElem_signExtend, BitVec.getElem_sshiftRight, BitVec.msb_eq_getLsbD_last, BitVec.getLsbD_sshiftRight]
    interval_cases i <;> simp
  rw [h, BitVec.toInt_signExtend_of_le (by decide)]

/-- A pattern with sixteen zero bits below reads, as an f32, what its upper half reads as a bf16. -/
theorem ieee_append (h : BitVec 16) : Ideal.ieee 8 23 (h ++ 0#16 : BitVec 32) = Ideal.ieee 8 7 h := by
  have ht : (h ++ 0#16 : BitVec 32).toNat = h.toNat * 65536 := by
    refine (BitVec.toNat_append h 0#16).trans ?_
    simp [Nat.shiftLeft_eq]
  have n1 : ((h ++ 0#16 : BitVec 32).extractLsb' 31 1) = h.extractLsb' 15 1 := by
    refine BitVec.eq_of_toNat_eq ?_
    rw [BitVec.extractLsb'_toNat, BitVec.extractLsb'_toNat, ht, Nat.shiftRight_eq_div_pow, Nat.shiftRight_eq_div_pow]
    omega
  have n2 : ((h ++ 0#16 : BitVec 32).extractLsb' 23 8) = h.extractLsb' 7 8 := by
    refine BitVec.eq_of_toNat_eq ?_
    rw [BitVec.extractLsb'_toNat, BitVec.extractLsb'_toNat, ht, Nat.shiftRight_eq_div_pow, Nat.shiftRight_eq_div_pow]
    omega
  have n3 : ((h ++ 0#16 : BitVec 32).extractLsb' 0 23).toNat = (h.extractLsb' 0 7).toNat * 65536 := by
    rw [BitVec.extractLsb'_toNat, BitVec.extractLsb'_toNat, ht]
    simp only [Nat.shiftRight_zero]
    omega
  simp only [Ideal.ieee]
  rw [show (8 + 23 : ℕ) = 31 from rfl, show (8 + 7 : ℕ) = 15 from rfl, n1, n2, n3]
  generalize (BitVec.extractLsb' 0 7 h).toNat = n
  generalize (BitVec.extractLsb' 7 8 h).toNat = e
  generalize (if (BitVec.extractLsb' 15 1 h == 1#1) = true then (-1 : ℝ) else 1) = s
  have z : (n * 65536 = 0) = (n = 0) := by simp
  simp only [z]
  have e1 : s * ((n * 65536 : ℕ) : ℝ) * (2 : ℝ) ^ (1 - (2 ^ (8 - 1) - 1) - ((23 : ℕ) : ℤ) : ℤ)
      = s * (n : ℝ) * (2 : ℝ) ^ (1 - (2 ^ (8 - 1) - 1) - ((7 : ℕ) : ℤ) : ℤ) := by
    have : (2 : ℝ) ^ (1 - (2 ^ (8 - 1) - 1) - ((7 : ℕ) : ℤ) : ℤ) = 65536 * (2 : ℝ) ^ (1 - (2 ^ (8 - 1) - 1) - ((23 : ℕ) : ℤ) : ℤ) := by
      rw [show (1 - (2 ^ (8 - 1) - 1) - ((7 : ℕ) : ℤ) : ℤ) = (1 - (2 ^ (8 - 1) - 1) - ((23 : ℕ) : ℤ) : ℤ) + 16 by norm_num, zpow_add₀ (by norm_num)]
      norm_num
    rw [this]; push_cast; ring
  have e2 : s * ((2 ^ 23 + n * 65536 : ℕ) : ℝ) * (2 : ℝ) ^ ((e : ℤ) - (2 ^ (8 - 1) - 1) - ((23 : ℕ) : ℤ) : ℤ)
      = s * ((2 ^ 7 + n : ℕ) : ℝ) * (2 : ℝ) ^ ((e : ℤ) - (2 ^ (8 - 1) - 1) - ((7 : ℕ) : ℤ) : ℤ) := by
    have : (2 : ℝ) ^ ((e : ℤ) - (2 ^ (8 - 1) - 1) - ((7 : ℕ) : ℤ) : ℤ) = 65536 * (2 : ℝ) ^ ((e : ℤ) - (2 ^ (8 - 1) - 1) - ((23 : ℕ) : ℤ) : ℤ) := by
      rw [show ((e : ℤ) - (2 ^ (8 - 1) - 1) - ((7 : ℕ) : ℤ) : ℤ) = ((e : ℤ) - (2 ^ (8 - 1) - 1) - ((23 : ℕ) : ℤ) : ℤ) + 16 by push_cast; ring, zpow_add₀ (by norm_num)]
      norm_num; ring
    rw [this]; push_cast; ring
  rw [e1, e2]

/-- A word with its low half cleared, read as an f32, is its high half read as a bf16. -/
theorem high_half (x : BitVec 32) :
    Ideal.ofBits .f32 (IntOp.andi x 4294901760#32) = Ideal.ofBits .bf16 ((IntOp.shrsi .vector x 16#32).setWidth 16) := by
  have e1 : IntOp.andi x 4294901760#32 = x.extractLsb' 16 16 ++ 0#16 := by
    simp only [IntOp.andi]
    refine BitVec.eq_of_getLsbD_eq fun i hi => ?_
    refine Eq.trans ?_ (BitVec.getLsbD_append (x := x.extractLsb' 16 16) (y := 0#16) (i := i)).symm
    interval_cases i <;> simp
  have e2 : (IntOp.shrsi .vector x 16#32).setWidth 16 = x.extractLsb' 16 16 := by
    simp only [IntOp.shrsi, BitVec.toNat_ofNat]
    norm_num
    ext i hi
    interval_cases i <;> simp [BitVec.getLsbD_sshiftRight, BitVec.getElem_sshiftRight]
  rw [e1, e2]
  exact ieee_append _

end Cert.Proof.Spec
-- ==== Proof.KernelIdealLoads.lean ====
/- What the update's body loads and computes in one tile, element by element, over the extended reals: the tile of group `j`
   and chunk `c` of trip `k` at grid point `i` holds rows `1024 i + 128 k + 32 j + …` and columns `128 c + …` of the arrays. -/
module

public import proofs.«01_k».proof.Proof.KernelIdealLists
public import proofs.«01_k».proof.Proof.Spec
public import proofs.«01_k».proof.Proof.SpecBits
public import Idealize.ShloMosaic.Lib.Pipeline.Value

@[expose] public section

set_option maxRecDepth 65536

noncomputable section

namespace Cert.Proof.KernelIdeal

open Cert.KernelIdeal Cert.KernelIdeal.Gen Cert.Proof.Spec
open Idealize.ShloMosaic Idealize.ShloMosaic.TcCoe Idealize.ShloMosaic.Tactic
open Idealize.SL.Sem

theorem trip_lt (k : Fin k0_t1_loop.trips) : k.val < 8 := lt_of_lt_of_eq k.isLt (by decide +kernel)

theorem grid_lt (i : grid0.Coords) : (i 0).val < 12 := (i 0).isLt

/-- The array row of row `r` of a block. -/
def rowB (i : grid0.Coords) (r : Fin 1024) : Fin 12288 :=
  ⟨1024 * (i 0).val + r.val, by have := grid_lt i; omega⟩

/-- The block row of row `r` of group `j` of trip `k`. -/
def rowT (k : Fin k0_t1_loop.trips) (j : Fin 4) (r : Fin 32) : Fin 1024 :=
  ⟨128 * k.val + 32 * j.val + r.val, by have := trip_lt k; omega⟩

/-- The column of lane `l` of chunk `c`. -/
def colT (c : Fin 6) (l : Fin 128) : Fin 768 := ⟨128 * c.val + l.val, by omega⟩

/-! ## The loads -/

theorem xV_at (arg2 : Memref sig .tc .vmem S1024x768 .i32) (X : BufTy.Contents (Elt Ideal) arg2.view.ty)
    (k : Fin k0_t1_loop.trips) (j : Fin 4) (c : Fin 6) (r : Fin 32) (l : Fin 128) :
    xV arg2 X k j c (ix2 r l) = arg2.view.read (Elt Ideal) X (ix2 (rowT k j r) (colT c l)) := by
  unfold xV
  rw [View.readAt_apply]
  refine congrArg _ (funext fun a => Fin.ext ?_)
  have h0 := offK_row k j c
  match a with
  | ⟨0, _⟩ =>
    show offK k j c 0 + 1 * r.val = 128 * k.val + 32 * j.val + r.val
    omega
  | ⟨1, _⟩ =>
    show offK k j c 1 + 1 * l.val = 128 * c.val + l.val
    rw [offK_col]; omega

theorem gV_at (i : grid0.Coords) (arg1 : Memref sig .tc .vmem S73728x128 .f32) (X : BufTy.Contents (Elt Ideal) arg1.view.ty)
    (k : Fin k0_t1_loop.trips) (j : Fin 4) (c : Fin 6) (r : Fin 32) (l : Fin 128) :
    gV i arg1 X k j c (ix2 r l) = gA (arg1.view.read (Elt Ideal) X) (rowB i (rowT k j r)) (colT c l) := by
  unfold gV gA
  rw [View.readAt_apply]
  refine congrArg _ (funext fun a => Fin.ext ?_)
  have h0 := off2_row i k j c
  have h1 := off2_col i k j c
  match a with
  | ⟨0, _⟩ =>
    show k0_off2 i k (BitVec.ofNat 32 (32 * j.val)) (BitVec.ofNat 32 c.val) 0 + 6 * r.val
      = 6 * (1024 * (i 0).val + (128 * k.val + 32 * j.val + r.val)) + (128 * c.val + l.val) / 128
    rw [h0]; omega
  | ⟨1, _⟩ =>
    show k0_off2 i k (BitVec.ofNat 32 (32 * j.val)) (BitVec.ofNat 32 c.val) 1 + 1 * l.val = (128 * c.val + l.val) % 128
    rw [h1]; omega

/-- The line and the lane of a block row in an [8, 128] block of per-row values. -/
def lineT (k : Fin k0_t1_loop.trips) : Fin 8 := ⟨k.val, trip_lt k⟩

def laneT (j : Fin 4) (r : Fin 32) : Fin 128 := ⟨32 * j.val + r.val, by omega⟩

theorem perRow_at (f : Vec Ideal S1x128 .f32 → FVec Ideal S128x128 .f32) (hf : ∀ v y, f v y = v (ix2 0 (y 0)))
    (src : Memref sig .tc .vmem S8x128 .f32) (scr : Memref sig .tc .vmem S128x128 .f32)
    (X : BufTy.Contents (Elt Ideal) src.view.ty) (k : Fin k0_t1_loop.trips) (j : Fin 4) (r : Fin 32) (l : Fin 128) :
    perRow f src scr X k j (ix2 r l) = src.view.read (Elt Ideal) X (ix2 (lineT k) (laneT j r)) := by
  unfold perRow
  rw [View.readCov_eq_canon', View.canon_unit_zero (by funext a; match a with | ⟨0, _⟩ => rfl | ⟨1, _⟩ => rfl)]
  show f _ _ = _
  rw [hf, View.readAt_apply]
  refine congrArg _ (funext fun a => Fin.ext ?_)
  have h0 := off1_row k
  have h1 := off1_col k
  match a with
  | ⟨0, _⟩ =>
    show k0_off1 k 0 + 1 * 0 = k.val
    omega
  | ⟨1, _⟩ =>
    show k0_off1 k 1 + 1 * (32 * j.val + 1 * r.val) = 32 * j.val + r.val
    omega

theorem pay4_at (v : Vec Ideal S1x128 .f32) (y : S128x128.Idx) : k0_pay4 v y = v (ix2 0 (y 0)) := by pointwise [k0_pay4]
theorem pay5_at (v : Vec Ideal S1x128 .f32) (y : S128x128.Idx) : k0_pay5 v y = v (ix2 0 (y 0)) := by pointwise [k0_pay5]
theorem pay6_at (v : Vec Ideal S1x128 .f32) (y : S128x128.Idx) : k0_pay6 v y = v (ix2 0 (y 0)) := by pointwise [k0_pay6]

/-! ## The payloads -/

theorem pay1_at (v : Vec Ideal S8x128 .i32) (y : S8x128.Idx) : k0_pay1 v y = stepS (v y) := by
  unfold stepS; pointwise [k0_pay1]

theorem pay11_at (A G : Vec Ideal S32x128 .f32) (X : Vec Ideal S32x128 .i32) (y : S32x128.Idx) :
    k0_pay11 A G X y = mS (A y) (G y) (X y) := by
  have h : (FloatOps.sitofp (F := Ideal) .f32 (IntOp.shrsi .vector (IntOp.shli .vector (X y) 16#32) 24#32) : EReal)
      = FloatOps.sitofp (F := Ideal) .f32 ((IntOp.shrsi .vector (X y) 8#32).setWidth 8) :=
    congrArg (fun n : ℤ => ((n : ℝ) : EReal)) (high_byte (X y))
  unfold mS
  rw [← h]
  pointwise [k0_pay11]

theorem pay12_at (A G : Vec Ideal S32x128 .f32) (X : Vec Ideal S32x128 .i32) (y : S32x128.Idx) :
    k0_pay12 A G X y = vS (A y) (G y) (X y) := by
  have h : (FloatOps.sitofp (F := Ideal) .f32 (IntOp.shrsi .vector (IntOp.shli .vector (X y) 24#32) 24#32) : EReal)
      = FloatOps.sitofp (F := Ideal) .f32 ((X y).setWidth 8) :=
    congrArg (fun n : ℤ => ((n : ℝ) : EReal)) (low_byte (X y))
  unfold vS
  rw [← h]
  pointwise [k0_pay12]

theorem updC_at (s m v : FVec Ideal S32x128 .f32) (y : S32x128.Idx) : updC s m v y = updS (s y) (m y) (v y) := by
  unfold updS; pointwise [updC, k0_pay14]

theorem wC_at (s : FVec Ideal S32x128 .f32) (x : Vec Ideal S32x128 .i32) (m v : FVec Ideal S32x128 .f32) (y : S32x128.Idx) :
    wC s x m v y = wS (s y) (m y) (v y) (x y) := by
  unfold wS updS
  rw [← high_half]
  pointwise [wC, k0_pay15, k0_pay14, k0_pay10]

theorem pay57_at (m : Fin 6 → FVec Ideal S32x128 .f32) (f : Fin 32 → Fin 768 → EReal)
    (h : ∀ c r l, m c (ix2 r l) = f r (colT c l)) (r : Fin 32) : scC m (ix2 r 0) = scaleS (f r) := by
  have e : Finset.fold max (Ideal.ofBits .f32 4286578688#32)
      (fun l : Fin 128 => max (max (max (max (max (FloatOps.absf (F := Ideal) (φ := .f32) (m 0 (ix2 r l)) : EReal) (FloatOps.absf (F := Ideal) (φ := .f32) (m 1 (ix2 r l)))) (FloatOps.absf (F := Ideal) (φ := .f32) (m 2 (ix2 r l)))) (FloatOps.absf (F := Ideal) (φ := .f32) (m 3 (ix2 r l)))) (FloatOps.absf (F := Ideal) (φ := .f32) (m 4 (ix2 r l)))) (FloatOps.absf (F := Ideal) (φ := .f32) (m 5 (ix2 r l)))) Finset.univ
      = maxS (f r) :=
    fold_chunks _ (fun c l => FloatOps.absf (F := Ideal) (φ := .f32) (m c (ix2 r l))) _ fun c l => by
      show FloatOps.absf (F := Ideal) (φ := .f32) (m c (ix2 r l)) = FloatOps.absf (F := Ideal) (φ := .f32) (f r (colT c l))
      rw [h]
  unfold scaleS
  rw [← e]
  pointwise [scC, k0_pay57]

theorem pay58_at (m : FVec Ideal S32x128 .f32) (s : FVec Ideal S32x1 .f32) (r : Fin 32) (l : Fin 128) :
    k0_pay58 m s (ix2 r l) = codeS (m (ix2 r l)) (s (ix2 r 0)) := by
  unfold codeS; pointwise [k0_pay58]

/-- Lane `l` is the lane of row `x` of group `j`, on the words the body compares. -/
theorem diag_word : ∀ (j : Fin 4) (l : Fin 128) (x : Fin 32),
    IntOp.cmpi CmpIPredicate.eq (BitVec.ofNat 32 l.val) (IntOp.addi (BitVec.ofNat 32 x.val) (BitVec.ofNat 32 (32 * j.val)))
      = if x.val + 32 * j.val = l.val then 1#1 else 0#1 := by
  decide +kernel

/-- Group `j`'s part of the row of scales: at the lanes of its rows the row's scale, elsewhere zero. -/
theorem pay56_at (s : FVec Ideal S32x1 .f32) (j : Fin 4) (l : Fin 128) :
    k0_pay56 (diagV j) s (ix2 0 l) = if h : 32 * j.val ≤ l.val ∧ l.val < 32 * j.val + 32 then s (ix2 ⟨l.val - 32 * j.val, by omega⟩ 0) else 0 := by
  have e : k0_pay56 (diagV j) s (ix2 0 l) = ∑ x : Fin 32, Scalar.select
        (IntOp.cmpi CmpIPredicate.eq (BitVec.ofNat 32 l.val)
          (IntOp.addi (BitVec.ofNat 32 x.val) (BitVec.ofNat 32 (32 * j.val)))) (s (ix2 x 0)) (0 : EReal) := by
    pointwise [k0_pay56, diagV]
  have hsel : ∀ x : Fin 32, Scalar.select
        (IntOp.cmpi CmpIPredicate.eq (BitVec.ofNat 32 l.val)
          (IntOp.addi (BitVec.ofNat 32 x.val) (BitVec.ofNat 32 (32 * j.val)))) (s (ix2 x 0)) (0 : EReal)
      = if x.val + 32 * j.val = l.val then s (ix2 x 0) else 0 := by
    intro x
    rw [diag_word]
    split <;> rfl
  rw [e, Finset.sum_congr rfl fun x _ => hsel x]
  split
  · rename_i h
    rw [Finset.sum_eq_single (⟨l.val - 32 * j.val, by omega⟩ : Fin 32)]
    · rw [if_pos (by show l.val - 32 * j.val + 32 * j.val = l.val; omega)]
    · intro x _ hx
      refine if_neg fun hh => hx (Fin.ext ?_)
      show x.val = l.val - 32 * j.val
      omega
    · intro hx; exact absurd (Finset.mem_univ _) hx
  · rename_i h
    refine Finset.sum_eq_zero fun x _ => if_neg fun hh => h ?_
    have := x.isLt
    omega

/-- The row of scales of a trip: at each lane the scale of that lane's row. -/
theorem rowC_at (sc : Fin 4 → FVec Ideal S32x1 .f32) (f : Fin 128 → EReal) (h : ∀ j r, sc j (ix2 r 0) = f (laneT j r)) (l : Fin 128) :
    rowC sc (ix2 0 l) = f l := by
  have e : rowC sc (ix2 0 l) = (((((0 : EReal) + k0_pay56 (diagV 0) (sc 0) (ix2 0 l)) + k0_pay56 (diagV 1) (sc 1) (ix2 0 l)) + k0_pay56 (diagV 2) (sc 2) (ix2 0 l)) + k0_pay56 (diagV 3) (sc 3) (ix2 0 l)) := by
    have h7 : k0_pay7 (F := Ideal) (ix2 0 l) = (0 : EReal) := by pointwise [k0_pay7]
    rw [← h7]
    rfl
  rw [e, pay56_at, pay56_at, pay56_at, pay56_at]
  have hj : ∀ (j : Fin 4) (hh : 32 * j.val ≤ l.val ∧ l.val < 32 * j.val + 32), sc j (ix2 ⟨l.val - 32 * j.val, by omega⟩ 0) = f l := by
    intro j hh
    rw [h]
    refine congrArg f (Fin.ext ?_)
    show 32 * j.val + (l.val - 32 * j.val) = l.val
    omega
  have hl := l.isLt
  by_cases h0 : l.val < 32
  · rw [dif_pos (by show 32 * 0 ≤ _ ∧ _ < 32 * 0 + 32; omega), dif_neg (by show ¬ (32 * 1 ≤ _ ∧ _ < 32 * 1 + 32); omega), dif_neg (by show ¬ (32 * 2 ≤ _ ∧ _ < 32 * 2 + 32); omega), dif_neg (by show ¬ (32 * 3 ≤ _ ∧ _ < 32 * 3 + 32); omega), hj 0 (by show 32 * 0 ≤ _ ∧ _ < 32 * 0 + 32; omega)]
    simp
  by_cases h1 : l.val < 64
  · rw [dif_neg (by show ¬ (32 * 0 ≤ _ ∧ _ < 32 * 0 + 32); omega), dif_pos (by show 32 * 1 ≤ _ ∧ _ < 32 * 1 + 32; omega), dif_neg (by show ¬ (32 * 2 ≤ _ ∧ _ < 32 * 2 + 32); omega), dif_neg (by show ¬ (32 * 3 ≤ _ ∧ _ < 32 * 3 + 32); omega), hj 1 (by show 32 * 1 ≤ _ ∧ _ < 32 * 1 + 32; omega)]
    simp
  by_cases h2 : l.val < 96
  · rw [dif_neg (by show ¬ (32 * 0 ≤ _ ∧ _ < 32 * 0 + 32); omega), dif_neg (by show ¬ (32 * 1 ≤ _ ∧ _ < 32 * 1 + 32); omega), dif_pos (by show 32 * 2 ≤ _ ∧ _ < 32 * 2 + 32; omega), dif_neg (by show ¬ (32 * 3 ≤ _ ∧ _ < 32 * 3 + 32); omega), hj 2 (by show 32 * 2 ≤ _ ∧ _ < 32 * 2 + 32; omega)]
    simp
  · rw [dif_neg (by show ¬ (32 * 0 ≤ _ ∧ _ < 32 * 0 + 32); omega), dif_neg (by show ¬ (32 * 1 ≤ _ ∧ _ < 32 * 1 + 32); omega), dif_neg (by show ¬ (32 * 2 ≤ _ ∧ _ < 32 * 2 + 32); omega), dif_pos (by show 32 * 3 ≤ _ ∧ _ < 32 * 3 + 32; omega), hj 3 (by show 32 * 3 ≤ _ ∧ _ < 32 * 3 + 32; omega)]
    simp

end Cert.Proof.KernelIdeal

end
-- ==== Proof.KernelIdealTile.lean ====
/- One tile of the update in terms of the whole arrays, and the pieces one trip writes as parts of the block's result. -/
module

public import proofs.«01_k».proof.Proof.KernelIdealLoads

@[expose] public section

set_option maxRecDepth 65536
set_option maxHeartbeats 200000

noncomputable section

namespace Cert.Proof.KernelIdeal

open Cert.KernelIdeal Cert.KernelIdeal.Gen Cert.Proof.Spec
open Idealize.ShloMosaic Idealize.ShloMosaic.TcCoe Idealize.ShloMosaic.Tactic
open Idealize.SL.Sem

/-- Block `i` of an array given by row and column. -/
def blockOf {α : Type} (i : grid0.Coords) (f : Fin 12288 → Fin 768 → α) : S1024x768.Idx → α :=
  fun z => f (rowB i (z 0)) (z 1)

/-- The array row of lane `z 1` of line `z 0` of block `i`. -/
def rowL (i : grid0.Coords) (z : S8x128.Idx) : Fin 12288 :=
  ⟨1024 * (i 0).val + 128 * (z 0).val + (z 1).val, by
    have hi := grid_lt i
    have h0 : (z 0).val < 8 := (z 0).isLt
    have h1 : (z 1).val < 128 := (z 1).isLt
    omega⟩

/-- Block `i` of an array of one number a row. -/
def linesOf {α : Type} (i : grid0.Coords) (f : Fin 12288 → α) : S8x128.Idx → α := fun z => f (rowL i z)

theorem rowL_line (i : grid0.Coords) (k : Fin k0_t1_loop.trips) (j : Fin 4) (r : Fin 32) :
    rowL i (ix2 (lineT k) (laneT j r)) = rowB i (rowT k j r) := by
  apply Fin.ext
  show 1024 * (i 0).val + 128 * (lineT k).val + (laneT j r).val = 1024 * (i 0).val + (128 * k.val + 32 * j.val + r.val)
  show 1024 * (i 0).val + 128 * k.val + (32 * j.val + r.val) = _
  omega

/-- A tile that holds the array's values is the block's values at the tile's place. -/
theorem tile_at {e : EltTy} (i : grid0.Coords) (k : Fin k0_t1_loop.trips) (j : Fin 4) (c : Fin 6) (w : S32x128.Idx → Elt Ideal e)
    (f : Fin 12288 → Fin 768 → Elt Ideal e) (h : ∀ r l, w (ix2 r l) = f (rowB i (rowT k j r)) (colT c l)) (y : S32x128.Idx) :
    w y = blockOf i f ((rectK k j c).emb y) := by
  have e0 : rowT k j (y 0) = (rectK k j c).emb y 0 := by
    apply Fin.ext
    show 128 * k.val + 32 * j.val + (y 0).val = offK k j c 0 + 1 * (y 0).val
    rw [offK_row]; omega
  have e1 : colT c (y 1) = (rectK k j c).emb y 1 := by
    apply Fin.ext
    show 128 * c.val + (y 1).val = offK k j c 1 + 1 * (y 1).val
    rw [offK_col]; omega
  refine (congrArg w (eq_ix2 y)).trans ((h (y 0) (y 1)).trans ?_)
  unfold blockOf
  exact congrArg₂ (fun R C => f (rowB i R) C) e0 e1

/-- Tiles that hold the array's values are the block's values at the tiles' places. -/
theorem piecesK_at {e : EltTy} (i : grid0.Coords) (k : Fin k0_t1_loop.trips) (w : Fin 4 → Fin 6 → (S32x128.Idx → Elt Ideal e))
    (f : Fin 12288 → Fin 768 → Elt Ideal e) (h : ∀ j c r l, w j c (ix2 r l) = f (rowB i (rowT k j r)) (colT c l)) :
    ∀ p ∈ piecesK k w, ∀ y, p.2 y = blockOf i f (p.1.emb y) := by
  intro p hp
  obtain ⟨jc, -, rfl⟩ := List.mem_map.mp hp
  exact tile_at i k jc.1 jc.2 (w jc.1 jc.2) f (h jc.1 jc.2)

theorem line_at (i : grid0.Coords) (k : Fin k0_t1_loop.trips) (w : S1x128.Idx → EReal) (f : Fin 12288 → EReal)
    (h : ∀ l : Fin 128, w (ix2 0 l) = f (rowL i (ix2 (lineT k) l))) (y : S1x128.Idx) :
    w y = linesOf i f ((Rect.unit (s := S8x128) (k0_off1 k) S1x128.size (k0_off1_inb k)).emb y) := by
  have h0 : y 0 = (0 : Fin 1) := Fin.ext (Nat.lt_one_iff.mp (y 0).isLt)
  have e : y = ix2 (0 : Fin 1) (y 1) := (eq_ix2 y).trans (congrArg (fun z : Fin 1 => ix2 z (y 1)) h0)
  refine (congrArg w e).trans ((h (y 1)).trans ?_)
  unfold linesOf
  refine congrArg f (congrArg (rowL i) ?_)
  funext d
  apply Fin.ext
  refine Fin.cases ?_ (Fin.cases ?_ finZeroElim) d
  · show k.val = k0_off1 k 0 + 1 * (y 0).val
    rw [off1_row, h0]; rfl
  · show (y 1).val = k0_off1 k 1 + 1 * (y 1).val
    rw [off1_col]; omega

/-- The line of scales trip `k` writes is the block's line `k`. -/
theorem lineK_at (i : grid0.Coords) (k : Fin k0_t1_loop.trips) (sc : Fin 4 → FVec Ideal S32x1 .f32) (f : Fin 12288 → EReal)
    (h : ∀ j r, sc j (ix2 r 0) = f (rowB i (rowT k j r))) :
    ∀ p ∈ ([⟨Rect.unit (k0_off1 k) S1x128.size (k0_off1_inb k), rowC sc⟩] : List (View.Piece (Elt Ideal) S8x128 .f32)),
      ∀ y, p.2 y = linesOf i f (p.1.emb y) := by
  intro p hp
  obtain rfl := List.mem_singleton.mp hp
  refine line_at i k (rowC sc) f fun l => rowC_at sc (fun l => f (rowL i (ix2 (lineT k) l))) ?_ l
  intro j r
  rw [h, rowL_line]

section

variable (g : (⟨2, ![73728, 128]⟩ : Shape).Idx → EReal) (x : (⟨2, ![12288, 768]⟩ : Shape).Idx → BitVec 32)
  (a b : (⟨1, ![12288]⟩ : Shape).Idx → EReal) (st : (⟨1, ![12288]⟩ : Shape).Idx → BitVec 32)
  (i : grid0.Coords) (arg1 : Memref sig .tc .vmem S73728x128 .f32) (arg2 : Memref sig .tc .vmem S1024x768 .i32)
  (arg3 : Memref sig .tc .vmem S8x128 .f32) (arg4 : Memref sig .tc .vmem S8x128 .f32) (arg12 : Memref sig .tc .vmem S8x128 .f32)
  (arg13 arg14 arg15 : Memref sig .tc .vmem S128x128 .f32)
  (X1 : BufTy.Contents (Elt Ideal) arg1.view.ty) (X2 : BufTy.Contents (Elt Ideal) arg2.view.ty)
  (X3 : BufTy.Contents (Elt Ideal) arg3.view.ty) (X4 : BufTy.Contents (Elt Ideal) arg4.view.ty)
  (X12 : BufTy.Contents (Elt Ideal) arg12.view.ty)

/-- The memrefs a trip reads hold block `i` of the arrays. -/
structure Holds : Prop where
  g : arg1.view.read (Elt Ideal) X1 = g
  x : arg2.view.read (Elt Ideal) X2 = blockOf i fun R C => x (ix2 R C)
  a : arg3.view.read (Elt Ideal) X3 = linesOf i fun R => a (ix1 R)
  b : arg4.view.read (Elt Ideal) X4 = linesOf i fun R => b (ix1 R)
  s : arg12.view.read (Elt Ideal) X12 = linesOf i fun R => stepS (st (ix1 R))

variable {g x a b st i arg1 arg2 arg3 arg4 arg12 X1 X2 X3 X4 X12}
  (H : Holds g x a b st i arg1 arg2 arg3 arg4 arg12 X1 X2 X3 X4 X12) (k : Fin k0_t1_loop.trips) (j : Fin 4) (c : Fin 6)
  (r : Fin 32) (l : Fin 128)

include H

theorem x_at : xV arg2 X2 k j c (ix2 r l) = x (ix2 (rowB i (rowT k j r)) (colT c l)) := by
  rw [xV_at, H.x]; rfl

theorem mV_at : mV i arg1 arg2 arg3 arg13 X1 X2 X3 k j c (ix2 r l) = mA g x a (rowB i (rowT k j r)) (colT c l) := by
  unfold mV
  rw [pay11_at, perRow_at _ pay4_at, gV_at, x_at H, H.g, H.a]
  unfold linesOf
  rw [rowL_line]
  rfl

theorem vV_at : vV i arg1 arg2 arg4 arg14 X1 X2 X4 k j c (ix2 r l) = vA g x b (rowB i (rowT k j r)) (colT c l) := by
  unfold vV
  rw [pay12_at, perRow_at _ pay5_at, gV_at, x_at H, H.g, H.b]
  unfold linesOf
  rw [rowL_line]
  rfl

theorem s_at (l : Fin 128) : perRow k0_pay6 arg12 arg15 X12 k j (ix2 r l) = stepS (st (ix1 (rowB i (rowT k j r)))) := by
  rw [perRow_at _ pay6_at, H.s]
  unfold linesOf
  rw [rowL_line]

theorem upd_at : updC (perRow k0_pay6 arg12 arg15 X12 k j) (mV i arg1 arg2 arg3 arg13 X1 X2 X3 k j c)
    (vV i arg1 arg2 arg4 arg14 X1 X2 X4 k j c) (ix2 r l) = updA g x a b st (rowB i (rowT k j r)) (colT c l) := by
  rw [updC_at, s_at arg15 H, mV_at arg13 H, vV_at arg14 H]; rfl

theorem w_at : wC (perRow k0_pay6 arg12 arg15 X12 k j) (xV arg2 X2 k j c) (mV i arg1 arg2 arg3 arg13 X1 X2 X3 k j c)
    (vV i arg1 arg2 arg4 arg14 X1 X2 X4 k j c) (ix2 r l) = wA g x a b st (rowB i (rowT k j r)) (colT c l) := by
  rw [wC_at, s_at arg15 H, mV_at arg13 H, vV_at arg14 H, x_at H]; rfl

theorem scm_at : scC (fun c => mV i arg1 arg2 arg3 arg13 X1 X2 X3 k j c) (ix2 r 0)
    = scaleS (mA g x a (rowB i (rowT k j r))) :=
  pay57_at _ (fun r => mA g x a (rowB i (rowT k j r))) (fun c r l => mV_at arg13 H k j c r l) r

theorem scv_at : scC (fun c => vV i arg1 arg2 arg4 arg14 X1 X2 X4 k j c) (ix2 r 0)
    = scaleS (vA g x b (rowB i (rowT k j r))) :=
  pay57_at _ (fun r => vA g x b (rowB i (rowT k j r))) (fun c r l => vV_at arg14 H k j c r l) r

theorem codem_at : k0_pay58 (mV i arg1 arg2 arg3 arg13 X1 X2 X3 k j c)
    (scC (fun c => mV i arg1 arg2 arg3 arg13 X1 X2 X3 k j c)) (ix2 r l)
      = codeA (mA g x a) (rowB i (rowT k j r)) (colT c l) := by
  rw [pay58_at, mV_at arg13 H, scm_at arg13 H]; rfl

theorem codev_at : k0_pay58 (vV i arg1 arg2 arg4 arg14 X1 X2 X4 k j c)
    (scC (fun c => vV i arg1 arg2 arg4 arg14 X1 X2 X4 k j c)) (ix2 r l)
      = codeA (vA g x b) (rowB i (rowT k j r)) (colT c l) := by
  rw [pay58_at, vV_at arg14 H, scv_at arg14 H]; rfl

end

end Cert.Proof.KernelIdeal
-- ==== Proof.KernelIdealBlock.lean ====
/- Grid point `i`'s results: the block of each result array that the body leaves in each of its windows' memrefs. -/
module

public import proofs.«01_k».proof.Proof.KernelIdealTile
public import proofs.«01_k».proof.Proof.KernelIdealFrame

@[expose] public section

set_option maxRecDepth 65536
set_option maxHeartbeats 400000

noncomputable section

namespace Cert.Proof.KernelIdeal

open Cert.KernelIdeal Cert.KernelIdeal.Gen Cert.Proof.Spec
open Idealize.ShloMosaic Idealize.ShloMosaic.TcCoe Idealize.ShloMosaic.Tactic
open Idealize.SL.Sem

section

variable (𝒱 : Variants) (c : Dev nD) (bd : Option 𝒱.V) (i : grid0.Coords) (arg1 : Memref sig .tc .vmem S73728x128 .f32) (harg1 : arg1.IsWhole) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg0 : BitVec 32) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg12 : BufTy.Contents (Elt Ideal) arg12.view.ty)

theorem pb_mem_4 (Q : View.Piece (Elt Ideal) S1024x768 .bf16 → Prop)
    (hQ : ∀ k, ∀ p ∈ (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).1, Q p) :
    ∀ n, ∀ p ∈ (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 n).1, Q p := by
  intro n
  induction n with
  | zero =>
    intro p hp
    rw [pb.eq_1] at hp
    exact absurd hp (List.not_mem_nil)
  | succ n ih =>
    intro p hp
    rw [pb.eq_2] at hp
    unfold pbStep at hp
    split at hp
    · rcases List.mem_append.mp hp with h | h
      · exact hQ _ p h
      · exact ih p h
    · exact ih p hp

theorem pb_mem_5 (Q : View.Piece (Elt Ideal) S1024x768 .f32 → Prop)
    (hQ : ∀ k, ∀ p ∈ (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.1, Q p) :
    ∀ n, ∀ p ∈ (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 n).2.1, Q p := by
  intro n
  induction n with
  | zero =>
    intro p hp
    rw [pb.eq_1] at hp
    exact absurd hp (List.not_mem_nil)
  | succ n ih =>
    intro p hp
    rw [pb.eq_2] at hp
    unfold pbStep at hp
    split at hp
    · rcases List.mem_append.mp hp with h | h
      · exact hQ _ p h
      · exact ih p h
    · exact ih p hp

theorem pb_mem_6 (Q : View.Piece (Elt Ideal) S1024x768 .i8 → Prop)
    (hQ : ∀ k, ∀ p ∈ (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.1, Q p) :
    ∀ n, ∀ p ∈ (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 n).2.2.1, Q p := by
  intro n
  induction n with
  | zero =>
    intro p hp
    rw [pb.eq_1] at hp
    exact absurd hp (List.not_mem_nil)
  | succ n ih =>
    intro p hp
    rw [pb.eq_2] at hp
    unfold pbStep at hp
    split at hp
    · rcases List.mem_append.mp hp with h | h
      · exact hQ _ p h
      · exact ih p h
    · exact ih p hp

theorem pb_mem_7 (Q : View.Piece (Elt Ideal) S8x128 .f32 → Prop)
    (hQ : ∀ k, ∀ p ∈ (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.1, Q p) :
    ∀ n, ∀ p ∈ (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 n).2.2.2.1, Q p := by
  intro n
  induction n with
  | zero =>
    intro p hp
    rw [pb.eq_1] at hp
    exact absurd hp (List.not_mem_nil)
  | succ n ih =>
    intro p hp
    rw [pb.eq_2] at hp
    unfold pbStep at hp
    split at hp
    · rcases List.mem_append.mp hp with h | h
      · exact hQ _ p h
      · exact ih p h
    · exact ih p hp

theorem pb_mem_8 (Q : View.Piece (Elt Ideal) S1024x768 .i8 → Prop)
    (hQ : ∀ k, ∀ p ∈ (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.1, Q p) :
    ∀ n, ∀ p ∈ (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 n).2.2.2.2.1, Q p := by
  intro n
  induction n with
  | zero =>
    intro p hp
    rw [pb.eq_1] at hp
    exact absurd hp (List.not_mem_nil)
  | succ n ih =>
    intro p hp
    rw [pb.eq_2] at hp
    unfold pbStep at hp
    split at hp
    · rcases List.mem_append.mp hp with h | h
      · exact hQ _ p h
      · exact ih p h
    · exact ih p hp

theorem pb_mem_9 (Q : View.Piece (Elt Ideal) S8x128 .f32 → Prop)
    (hQ : ∀ k, ∀ p ∈ (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 k).2.2.2.2.2.1, Q p) :
    ∀ n, ∀ p ∈ (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 n).2.2.2.2.2.1, Q p := by
  intro n
  induction n with
  | zero =>
    intro p hp
    rw [pb.eq_1] at hp
    exact absurd hp (List.not_mem_nil)
  | succ n ih =>
    intro p hp
    rw [pb.eq_2] at hp
    unfold pbStep at hp
    split at hp
    · rcases List.mem_append.mp hp with h | h
      · exact hQ _ p h
      · exact ih p h
    · exact ih p hp

variable {g : (⟨2, ![73728, 128]⟩ : Shape).Idx → EReal} {x : (⟨2, ![12288, 768]⟩ : Shape).Idx → BitVec 32}
  {a b : (⟨1, ![12288]⟩ : Shape).Idx → EReal} {st : (⟨1, ![12288]⟩ : Shape).Idx → BitVec 32}
  (H : Holds g x a b st i arg1 arg2 arg3 arg4 arg12 X_arg1 X_arg2 X_arg3 X_arg4 X_arg12)

include H

theorem pb_at_4 (n : Nat) : ∀ p ∈ (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 n).1, ∀ y, p.2 y = blockOf i (wA g x a b st) (p.1.emb y) := by
  refine pb_mem_4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 (fun p => ∀ y, p.2 y = blockOf i (wA g x a b st) (p.1.emb y)) ?_ n
  intro k
  rw [trip_arg6]
  exact piecesK_at i k _ _ fun j c r l => w_at arg13 arg14 arg15 H k j c r l

theorem pb_at_5 (n : Nat) : ∀ p ∈ (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 n).2.1, ∀ y, p.2 y = blockOf i (updA g x a b st) (p.1.emb y) := by
  refine pb_mem_5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 (fun p => ∀ y, p.2 y = blockOf i (updA g x a b st) (p.1.emb y)) ?_ n
  intro k
  rw [trip_arg7]
  exact piecesK_at i k _ _ fun j c r l => upd_at arg13 arg14 arg15 H k j c r l

theorem pb_at_6 (n : Nat) : ∀ p ∈ (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 n).2.2.1, ∀ y, p.2 y = blockOf i (codeA (mA g x a)) (p.1.emb y) := by
  refine pb_mem_6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 (fun p => ∀ y, p.2 y = blockOf i (codeA (mA g x a)) (p.1.emb y)) ?_ n
  intro k
  rw [trip_arg8]
  exact piecesK_at (e := .i8) i k _ (codeA (mA g x a)) fun j c r l => codem_at arg13 H k j c r l

theorem pb_at_7 (n : Nat) : ∀ p ∈ (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 n).2.2.2.1, ∀ y, p.2 y = linesOf i (fun R => scaleS (mA g x a R)) (p.1.emb y) := by
  refine pb_mem_7 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 (fun p => ∀ y, p.2 y = linesOf i (fun R => scaleS (mA g x a R)) (p.1.emb y)) ?_ n
  intro k
  rw [trip_arg9]
  exact lineK_at i k _ (fun R => scaleS (mA g x a R)) fun j r => scm_at arg13 H k j r

theorem pb_at_8 (n : Nat) : ∀ p ∈ (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 n).2.2.2.2.1, ∀ y, p.2 y = blockOf i (codeA (vA g x b)) (p.1.emb y) := by
  refine pb_mem_8 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 (fun p => ∀ y, p.2 y = blockOf i (codeA (vA g x b)) (p.1.emb y)) ?_ n
  intro k
  rw [trip_arg10]
  exact piecesK_at (e := .i8) i k _ (codeA (vA g x b)) fun j c r l => codev_at arg14 H k j c r l

theorem pb_at_9 (n : Nat) : ∀ p ∈ (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 n).2.2.2.2.2.1, ∀ y, p.2 y = linesOf i (fun R => scaleS (vA g x b R)) (p.1.emb y) := by
  refine pb_mem_9 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 X_arg1 X_arg2 X_arg3 X_arg4 X_arg12 (fun p => ∀ y, p.2 y = linesOf i (fun R => scaleS (vA g x b R)) (p.1.emb y)) ?_ n
  intro k
  rw [trip_arg11]
  exact lineK_at i k _ (fun R => scaleS (vA g x b R)) fun j r => scv_at arg14 H k j r

end

section

variable (c : Dev nD) (i : grid0.Coords) (arg2 : Memref sig .tc .vmem S1024x768 .i32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S1024x768 .bf16) (harg6 : arg6.IsWhole) (arg7 : Memref sig .tc .vmem S1024x768 .f32) (harg7 : arg7.IsWhole) (arg8 : Memref sig .tc .vmem S1024x768 .i8) (harg8 : arg8.IsWhole) (arg9 : Memref sig .tc .vmem S8x128 .f32) (harg9 : arg9.IsWhole) (arg10 : Memref sig .tc .vmem S1024x768 .i8) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec Ideal S1024x768 .i32) (x1 : Vec Ideal S8x128 .f32) (x2 : Vec Ideal S8x128 .f32) (x3 : Vec Ideal S8x128 .i32) (fh0 : HbBuf0 (F := Ideal) c hbM0_0)
    (g : (⟨2, ![73728, 128]⟩ : Shape).Idx → EReal) (x : (⟨2, ![12288, 768]⟩ : Shape).Idx → BitVec 32)
    (a b : (⟨1, ![12288]⟩ : Shape).Idx → EReal) (st : (⟨1, ![12288]⟩ : Shape).Idx → BitVec 32)
    (hg : fh0 = g) (hx : x0 = blockOf i fun R C => x (ix2 R C)) (ha : x1 = linesOf i fun R => a (ix1 R))
    (hb : x2 = linesOf i fun R => b (ix1 R)) (hs : x3 = linesOf i fun R => st (ix1 R))

include hg hx ha hb hs

theorem holds_block : Holds g x a b st i (Memref.whole main_arg0) arg2 arg3 arg4 arg12 fh0 (harg2.unread x0) (harg3.unread x1)
    (harg4.unread x2) (arg12.view.writes (Elt Ideal) arg12.view.junk (kernelRun0_A.sl.HS0_1 (F := Ideal) c arg5 harg5 x3)) := by
  refine ⟨hg, ?_, ?_, ?_, ?_⟩
  · rw [harg2.read_unread, hx]
  · rw [harg3.read_unread, ha]
  · rw [harg4.read_unread, hb]
  · rw [View.read_writes_junk_eq_canon]
    unfold kernelRun0_A.sl.HS0_1
    rw [View.canon_unit_zero (by funext d; fin_cases d <;> rfl)]
    funext y
    rw [pay1_at, View.readAt_apply, harg5.read_unread, hs]
    unfold linesOf
    refine congrArg (fun z => stepS (st (ix1 (rowL i z)))) ?_
    funext d
    apply Fin.ext
    refine Fin.cases ?_ (Fin.cases ?_ finZeroElim) d
    · show 0 + 1 * (y 0).val = (y 0).val
      omega
    · show 0 + 1 * (y 1).val = (y 1).val
      omega

theorem out0_A_4_eq : out0_A_4 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0 = blockOf i (wA g x a b st) := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).1 = (pb (F := Ideal) Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15
      (BitVec.ofNat 32 (i 0).val) fh0 (harg2.unread x0) (harg3.unread x1) (harg4.unread x2) (arg12.view.writes (Elt Ideal) arg12.view.junk (kernelRun0_A.sl.HS0_1 (F := Ideal) c arg5 harg5 x3)) (Scf.trips k0_t1_loop.lb k0_t1_loop.ub k0_t1_loop.st)).1 := by
    sl_kernel_rfl
  funext y
  unfold out0_A_4
  rw [View.read_writes_junk_eq_canon]
  refine View.canon_apply_of_pieces _ _ (fun p hp => ?_) y (cover0_A_4 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0 y)
  exact pb_at_4 Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 _ _ _ _ _ _
    (holds_block c i arg2 harg2 arg3 harg3 arg4 harg4 arg5 harg5 arg12 x0 x1 x2 x3 fh0 g x a b st hg hx ha hb hs) _ p (e ▸ hp)

theorem out0_A_5_eq : out0_A_5 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0 = blockOf i (updA g x a b st) := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.1 = (pb (F := Ideal) Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15
      (BitVec.ofNat 32 (i 0).val) fh0 (harg2.unread x0) (harg3.unread x1) (harg4.unread x2) (arg12.view.writes (Elt Ideal) arg12.view.junk (kernelRun0_A.sl.HS0_1 (F := Ideal) c arg5 harg5 x3)) (Scf.trips k0_t1_loop.lb k0_t1_loop.ub k0_t1_loop.st)).2.1 := by
    sl_kernel_rfl
  funext y
  unfold out0_A_5
  rw [View.read_writes_junk_eq_canon]
  refine View.canon_apply_of_pieces _ _ (fun p hp => ?_) y (cover0_A_5 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0 y)
  exact pb_at_5 Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 _ _ _ _ _ _
    (holds_block c i arg2 harg2 arg3 harg3 arg4 harg4 arg5 harg5 arg12 x0 x1 x2 x3 fh0 g x a b st hg hx ha hb hs) _ p (e ▸ hp)

theorem out0_A_6_eq : out0_A_6 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0 = blockOf i (codeA (mA g x a)) := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.1 = (pb (F := Ideal) Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15
      (BitVec.ofNat 32 (i 0).val) fh0 (harg2.unread x0) (harg3.unread x1) (harg4.unread x2) (arg12.view.writes (Elt Ideal) arg12.view.junk (kernelRun0_A.sl.HS0_1 (F := Ideal) c arg5 harg5 x3)) (Scf.trips k0_t1_loop.lb k0_t1_loop.ub k0_t1_loop.st)).2.2.1 := by
    sl_kernel_rfl
  funext y
  unfold out0_A_6
  rw [View.read_writes_junk_eq_canon]
  refine View.canon_apply_of_pieces _ _ (fun p hp => ?_) y (cover0_A_6 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0 y)
  exact pb_at_6 Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 _ _ _ _ _ _
    (holds_block c i arg2 harg2 arg3 harg3 arg4 harg4 arg5 harg5 arg12 x0 x1 x2 x3 fh0 g x a b st hg hx ha hb hs) _ p (e ▸ hp)

theorem out0_A_7_eq : out0_A_7 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0 = linesOf i (fun R => scaleS (mA g x a R)) := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.1 = (pb (F := Ideal) Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15
      (BitVec.ofNat 32 (i 0).val) fh0 (harg2.unread x0) (harg3.unread x1) (harg4.unread x2) (arg12.view.writes (Elt Ideal) arg12.view.junk (kernelRun0_A.sl.HS0_1 (F := Ideal) c arg5 harg5 x3)) (Scf.trips k0_t1_loop.lb k0_t1_loop.ub k0_t1_loop.st)).2.2.2.1 := by
    sl_kernel_rfl
  funext y
  unfold out0_A_7
  rw [View.read_writes_junk_eq_canon]
  refine View.canon_apply_of_pieces _ _ (fun p hp => ?_) y (cover0_A_7 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0 y)
  exact pb_at_7 Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 _ _ _ _ _ _
    (holds_block c i arg2 harg2 arg3 harg3 arg4 harg4 arg5 harg5 arg12 x0 x1 x2 x3 fh0 g x a b st hg hx ha hb hs) _ p (e ▸ hp)

theorem out0_A_8_eq : out0_A_8 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0 = blockOf i (codeA (vA g x b)) := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.2.1 = (pb (F := Ideal) Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15
      (BitVec.ofNat 32 (i 0).val) fh0 (harg2.unread x0) (harg3.unread x1) (harg4.unread x2) (arg12.view.writes (Elt Ideal) arg12.view.junk (kernelRun0_A.sl.HS0_1 (F := Ideal) c arg5 harg5 x3)) (Scf.trips k0_t1_loop.lb k0_t1_loop.ub k0_t1_loop.st)).2.2.2.2.1 := by
    sl_kernel_rfl
  funext y
  unfold out0_A_8
  rw [View.read_writes_junk_eq_canon]
  refine View.canon_apply_of_pieces _ _ (fun p hp => ?_) y (cover0_A_8 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0 y)
  exact pb_at_8 Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 _ _ _ _ _ _
    (holds_block c i arg2 harg2 arg3 harg3 arg4 harg4 arg5 harg5 arg12 x0 x1 x2 x3 fh0 g x a b st hg hx ha hb hs) _ p (e ▸ hp)

theorem out0_A_9_eq : out0_A_9 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0 = linesOf i (fun R => scaleS (vA g x b R)) := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0).2.2.2.2.2.1 = (pb (F := Ideal) Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15
      (BitVec.ofNat 32 (i 0).val) fh0 (harg2.unread x0) (harg3.unread x1) (harg4.unread x2) (arg12.view.writes (Elt Ideal) arg12.view.junk (kernelRun0_A.sl.HS0_1 (F := Ideal) c arg5 harg5 x3)) (Scf.trips k0_t1_loop.lb k0_t1_loop.ub k0_t1_loop.st)).2.2.2.2.2.1 := by
    sl_kernel_rfl
  funext y
  unfold out0_A_9
  rw [View.read_writes_junk_eq_canon]
  refine View.canon_apply_of_pieces _ _ (fun p hp => ?_) y (cover0_A_9 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 fh0 y)
  exact pb_at_9 Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 _ _ _ _ _ _
    (holds_block c i arg2 harg2 arg3 harg3 arg4 harg4 arg5 harg5 arg12 x0 x1 x2 x3 fh0 g x a b st hg hx ha hb hs) _ p (e ▸ hp)

end

end Cert.Proof.KernelIdeal
-- ==== Proof.KernelIdealValue.lean ====
/- The kernel's output arrays after the run, block by block: what each grid point writes back, that two points' blocks share
   no index, and the run with every output array named. -/
module

public import proofs.«01_k».proof.Proof.KernelIdealFrame
public import Idealize.ShloMosaic.Lib.Pipeline.Value

@[expose] public section

noncomputable section

namespace Cert.Proof.KernelIdeal.Value

open Cert.Proof.KernelIdeal Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`outsAt0`: its component 0), read through the window's block. -/
theorem flushed4 (c : Dev nD) (t : Fin cfg0.N) :
    (dats m 0 c).flushed 4 t = (cfg0.win 4).cut (grid0.coords t) ((outsAt0 m c t).1) := by
  show (cfg0.win 4).cut (grid0.coords t) ((dats m 0 c).after 4 t) = _
  rw [after0_4]

/-- … so at a point where case A runs, what its write-back would write is that case's NAMED TERM for the window (`out0_A_4`: the pieces
    its run found, read back) at the point's memrefs and input blocks, and for an output the case reads back what the point before left (`outsAt0` at `t - 1`) — the kernel's one case, `outsAt0` by definition. -/
theorem flushed4_A (c : Dev nD) (t : Fin cfg0.N) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0)) := by
  simp only [flushed4, outsAt0]

/-- The index map sends distinct grid points to distinct block indices (decided over the 12 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S12288x768.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`outsAt0`: its component 1), read through the window's block. -/
theorem flushed5 (c : Dev nD) (t : Fin cfg0.N) :
    (dats m 0 c).flushed 5 t = (cfg0.win 5).cut (grid0.coords t) ((outsAt0 m c t).2.1) := by
  show (cfg0.win 5).cut (grid0.coords t) ((dats m 0 c).after 5 t) = _
  rw [after0_5]

/-- … so at a point where case A runs, what its write-back would write is that case's NAMED TERM for the window (`out0_A_5`: the pieces
    its run found, read back) at the point's memrefs and input blocks, and for an output the case reads back what the point before left (`outsAt0` at `t - 1`) — the kernel's one case, `outsAt0` by definition. -/
theorem flushed5_A (c : Dev nD) (t : Fin cfg0.N) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0)) := by
  simp only [flushed5, outsAt0]

/-- The index map sends distinct grid points to distinct block indices (decided over the 12 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S12288x768.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`outsAt0`: its component 2), read through the window's block. -/
theorem flushed6 (c : Dev nD) (t : Fin cfg0.N) :
    (dats m 0 c).flushed 6 t = (cfg0.win 6).cut (grid0.coords t) ((outsAt0 m c t).2.2.1) := by
  show (cfg0.win 6).cut (grid0.coords t) ((dats m 0 c).after 6 t) = _
  rw [after0_6]

/-- … so at a point where case A runs, what its write-back would write is that case's NAMED TERM for the window (`out0_A_6`: the pieces
    its run found, read back) at the point's memrefs and input blocks, and for an output the case reads back what the point before left (`outsAt0` at `t - 1`) — the kernel's one case, `outsAt0` by definition. -/
theorem flushed6_A (c : Dev nD) (t : Fin cfg0.N) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0)) := by
  simp only [flushed6, outsAt0]

/-- The index map sends distinct grid points to distinct block indices (decided over the 12 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S12288x768.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`outsAt0`: its component 3), read through the window's block. -/
theorem flushed7 (c : Dev nD) (t : Fin cfg0.N) :
    (dats m 0 c).flushed 7 t = (cfg0.win 7).cut (grid0.coords t) ((outsAt0 m c t).2.2.2.1) := by
  show (cfg0.win 7).cut (grid0.coords t) ((dats m 0 c).after 7 t) = _
  rw [after0_7]

/-- … so at a point where case A runs, what its write-back would write is that case's NAMED TERM for the window (`out0_A_7`: the pieces
    its run found, read back) at the point's memrefs and input blocks, and for an output the case reads back what the point before left (`outsAt0` at `t - 1`) — the kernel's one case, `outsAt0` by definition. -/
theorem flushed7_A (c : Dev nD) (t : Fin cfg0.N) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0)) := by
  simp only [flushed7, outsAt0]

/-- The index map sends distinct grid points to distinct block indices (decided over the 12 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S96x128.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`outsAt0`: its component 4), read through the window's block. -/
theorem flushed8 (c : Dev nD) (t : Fin cfg0.N) :
    (dats m 0 c).flushed 8 t = (cfg0.win 8).cut (grid0.coords t) ((outsAt0 m c t).2.2.2.2.1) := by
  show (cfg0.win 8).cut (grid0.coords t) ((dats m 0 c).after 8 t) = _
  rw [after0_8]

/-- … so at a point where case A runs, what its write-back would write is that case's NAMED TERM for the window (`out0_A_8`: the pieces
    its run found, read back) at the point's memrefs and input blocks, and for an output the case reads back what the point before left (`outsAt0` at `t - 1`) — the kernel's one case, `outsAt0` by definition. -/
theorem flushed8_A (c : Dev nD) (t : Fin cfg0.N) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0)) := by
  simp only [flushed8, outsAt0]

/-- The index map sends distinct grid points to distinct block indices (decided over the 12 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S12288x768.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`outsAt0`: its component 5), read through the window's block. -/
theorem flushed9 (c : Dev nD) (t : Fin cfg0.N) :
    (dats m 0 c).flushed 9 t = (cfg0.win 9).cut (grid0.coords t) ((outsAt0 m c t).2.2.2.2.2) := by
  show (cfg0.win 9).cut (grid0.coords t) ((dats m 0 c).after 9 t) = _
  rw [after0_9]

/-- … so at a point where case A runs, what its write-back would write is that case's NAMED TERM for the window (`out0_A_9`: the pieces
    its run found, read back) at the point's memrefs and input blocks, and for an output the case reads back what the point before left (`outsAt0` at `t - 1`) — the kernel's one case, `outsAt0` by definition. -/
theorem flushed9_A (c : Dev nD) (t : Fin cfg0.N) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0)) := by
  simp only [flushed9, outsAt0]

/-- The index map sends distinct grid points to distinct block indices (decided over the 12 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S96x128.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v3_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_3) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v3_4) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v3_5) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 0 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_v3_2) = (dats m 0 c).arrAt 6 cfg0.N
      ∧ r.2.mem ((c : Thread nD τ).loc main_v3_3) = (dats m 0 c).arrAt 7 cfg0.N
      ∧ r.2.mem ((c : Thread nD τ).loc main_v3_4) = (dats m 0 c).arrAt 8 cfg0.N
      ∧ r.2.mem ((c : Thread nD τ).loc main_v3_5) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post4 m r h c,
      post5 m r h c,
      post6 m r h c,
      post7 m r h c,
      post8 m r h c,
      post9 m r h c,
      kept_main_arg0 m r h c,
      kept_main_arg1 m r h c,
      kept_main_arg2 m r h c,
      kept_main_arg3 m r h c,
      kept_main_arg4 m r h c⟩)
    (run_main m ρ)

end Cert.Proof.KernelIdeal.Value

end
-- ==== Proof.KernelIdealArrays.lean ====
/- The kernel's result arrays after the run, as functions of its argument arrays. -/
module

public import proofs.«01_k».proof.Proof.KernelIdealBlock
public import proofs.«01_k».proof.Proof.KernelIdealValue
public import Idealize.ShloMosaic.Lib.Pipeline.ValueKit
public import Idealize.ShloMosaic.Lib.Pointwise

@[expose] public section

set_option maxRecDepth 65536
set_option maxHeartbeats 400000

noncomputable section

namespace Cert.Proof.KernelIdeal

open Cert.KernelIdeal Cert.KernelIdeal.Gen Cert.Proof.Spec
open Idealize.ShloMosaic Idealize.ShloMosaic.TcCoe Idealize.ShloMosaic.Tactic
open Idealize.SL.Sem

/-! ## Where a window's block lies in its array -/

theorem index_0 : ∀ t : Fin grid0.N, cc0_transform_1 (grid0.coords t) 0 = (grid0.coords t 0).val ∧ cc0_transform_1 (grid0.coords t) 1 = 0 := by
  decide +kernel

theorem emb_0 (t : Fin grid0.N) (y : S1024x768.Idx) :
    ((win0_0.blk t).view.emb y : S12288x768.Idx) = ix2 (rowB (grid0.coords t) (y 0)) (y 1) := by
  have h := index_0 t
  funext d
  apply Fin.ext
  refine Fin.cases ?_ (Fin.cases ?_ finZeroElim) d
  · show cc0_transform_1 (grid0.coords t) 0 * 1024 + 1 * (y 0).val = 1024 * (grid0.coords t 0).val + (y 0).val
    rw [h.1]; omega
  · show cc0_transform_1 (grid0.coords t) 1 * 768 + 1 * (y 1).val = (y 1).val
    rw [h.2]; omega

theorem index_1 : ∀ t : Fin grid0.N, cc0_transform_2 (grid0.coords t) 0 = (grid0.coords t 0).val ∧ cc0_transform_2 (grid0.coords t) 1 = 0 := by
  decide +kernel

theorem emb_1 (t : Fin grid0.N) (y : S8x128.Idx) :
    (((win0_1.blk t).view.emb y : S96x128.Idx) 0).val * 128 + (((win0_1.blk t).view.emb y : S96x128.Idx) 1).val
      = (rowL (grid0.coords t) y).val := by
  have h := index_1 t
  show (cc0_transform_2 (grid0.coords t) 0 * 8 + 1 * (y 0).val) * 128 + (cc0_transform_2 (grid0.coords t) 1 * 128 + 1 * (y 1).val)
    = 1024 * (grid0.coords t 0).val + 128 * (y 0).val + (y 1).val
  rw [h.1, h.2]; omega

theorem index_2 : ∀ t : Fin grid0.N, cc0_transform_3 (grid0.coords t) 0 = (grid0.coords t 0).val ∧ cc0_transform_3 (grid0.coords t) 1 = 0 := by
  decide +kernel

theorem emb_2 (t : Fin grid0.N) (y : S8x128.Idx) :
    (((win0_2.blk t).view.emb y : S96x128.Idx) 0).val * 128 + (((win0_2.blk t).view.emb y : S96x128.Idx) 1).val
      = (rowL (grid0.coords t) y).val := by
  have h := index_2 t
  show (cc0_transform_3 (grid0.coords t) 0 * 8 + 1 * (y 0).val) * 128 + (cc0_transform_3 (grid0.coords t) 1 * 128 + 1 * (y 1).val)
    = 1024 * (grid0.coords t 0).val + 128 * (y 0).val + (y 1).val
  rw [h.1, h.2]; omega

theorem index_3 : ∀ t : Fin grid0.N, cc0_transform_4 (grid0.coords t) 0 = (grid0.coords t 0).val ∧ cc0_transform_4 (grid0.coords t) 1 = 0 := by
  decide +kernel

theorem emb_3 (t : Fin grid0.N) (y : S8x128.Idx) :
    (((win0_3.blk t).view.emb y : S96x128.Idx) 0).val * 128 + (((win0_3.blk t).view.emb y : S96x128.Idx) 1).val
      = (rowL (grid0.coords t) y).val := by
  have h := index_3 t
  show (cc0_transform_4 (grid0.coords t) 0 * 8 + 1 * (y 0).val) * 128 + (cc0_transform_4 (grid0.coords t) 1 * 128 + 1 * (y 1).val)
    = 1024 * (grid0.coords t 0).val + 128 * (y 0).val + (y 1).val
  rw [h.1, h.2]; omega

theorem index_4 : ∀ t : Fin grid0.N, cc0_transform_5 (grid0.coords t) 0 = (grid0.coords t 0).val ∧ cc0_transform_5 (grid0.coords t) 1 = 0 := by
  decide +kernel

theorem emb_4 (t : Fin grid0.N) (y : S1024x768.Idx) :
    ((win0_4.blk t).view.emb y : S12288x768.Idx) = ix2 (rowB (grid0.coords t) (y 0)) (y 1) := by
  have h := index_4 t
  funext d
  apply Fin.ext
  refine Fin.cases ?_ (Fin.cases ?_ finZeroElim) d
  · show cc0_transform_5 (grid0.coords t) 0 * 1024 + 1 * (y 0).val = 1024 * (grid0.coords t 0).val + (y 0).val
    rw [h.1]; omega
  · show cc0_transform_5 (grid0.coords t) 1 * 768 + 1 * (y 1).val = (y 1).val
    rw [h.2]; omega

theorem index_5 : ∀ t : Fin grid0.N, cc0_transform_6 (grid0.coords t) 0 = (grid0.coords t 0).val ∧ cc0_transform_6 (grid0.coords t) 1 = 0 := by
  decide +kernel

theorem emb_5 (t : Fin grid0.N) (y : S1024x768.Idx) :
    ((win0_5.blk t).view.emb y : S12288x768.Idx) = ix2 (rowB (grid0.coords t) (y 0)) (y 1) := by
  have h := index_5 t
  funext d
  apply Fin.ext
  refine Fin.cases ?_ (Fin.cases ?_ finZeroElim) d
  · show cc0_transform_6 (grid0.coords t) 0 * 1024 + 1 * (y 0).val = 1024 * (grid0.coords t 0).val + (y 0).val
    rw [h.1]; omega
  · show cc0_transform_6 (grid0.coords t) 1 * 768 + 1 * (y 1).val = (y 1).val
    rw [h.2]; omega

theorem index_6 : ∀ t : Fin grid0.N, cc0_transform_7 (grid0.coords t) 0 = (grid0.coords t 0).val ∧ cc0_transform_7 (grid0.coords t) 1 = 0 := by
  decide +kernel

theorem emb_6 (t : Fin grid0.N) (y : S1024x768.Idx) :
    ((win0_6.blk t).view.emb y : S12288x768.Idx) = ix2 (rowB (grid0.coords t) (y 0)) (y 1) := by
  have h := index_6 t
  funext d
  apply Fin.ext
  refine Fin.cases ?_ (Fin.cases ?_ finZeroElim) d
  · show cc0_transform_7 (grid0.coords t) 0 * 1024 + 1 * (y 0).val = 1024 * (grid0.coords t 0).val + (y 0).val
    rw [h.1]; omega
  · show cc0_transform_7 (grid0.coords t) 1 * 768 + 1 * (y 1).val = (y 1).val
    rw [h.2]; omega

theorem index_7 : ∀ t : Fin grid0.N, cc0_transform_8 (grid0.coords t) 0 = (grid0.coords t 0).val ∧ cc0_transform_8 (grid0.coords t) 1 = 0 := by
  decide +kernel

theorem emb_7 (t : Fin grid0.N) (y : S8x128.Idx) :
    (((win0_7.blk t).view.emb y : S96x128.Idx) 0).val * 128 + (((win0_7.blk t).view.emb y : S96x128.Idx) 1).val
      = (rowL (grid0.coords t) y).val := by
  have h := index_7 t
  show (cc0_transform_8 (grid0.coords t) 0 * 8 + 1 * (y 0).val) * 128 + (cc0_transform_8 (grid0.coords t) 1 * 128 + 1 * (y 1).val)
    = 1024 * (grid0.coords t 0).val + 128 * (y 0).val + (y 1).val
  rw [h.1, h.2]; omega

theorem index_8 : ∀ t : Fin grid0.N, cc0_transform_9 (grid0.coords t) 0 = (grid0.coords t 0).val ∧ cc0_transform_9 (grid0.coords t) 1 = 0 := by
  decide +kernel

theorem emb_8 (t : Fin grid0.N) (y : S1024x768.Idx) :
    ((win0_8.blk t).view.emb y : S12288x768.Idx) = ix2 (rowB (grid0.coords t) (y 0)) (y 1) := by
  have h := index_8 t
  funext d
  apply Fin.ext
  refine Fin.cases ?_ (Fin.cases ?_ finZeroElim) d
  · show cc0_transform_9 (grid0.coords t) 0 * 1024 + 1 * (y 0).val = 1024 * (grid0.coords t 0).val + (y 0).val
    rw [h.1]; omega
  · show cc0_transform_9 (grid0.coords t) 1 * 768 + 1 * (y 1).val = (y 1).val
    rw [h.2]; omega

theorem index_9 : ∀ t : Fin grid0.N, cc0_transform_10 (grid0.coords t) 0 = (grid0.coords t 0).val ∧ cc0_transform_10 (grid0.coords t) 1 = 0 := by
  decide +kernel

theorem emb_9 (t : Fin grid0.N) (y : S8x128.Idx) :
    (((win0_9.blk t).view.emb y : S96x128.Idx) 0).val * 128 + (((win0_9.blk t).view.emb y : S96x128.Idx) 1).val
      = (rowL (grid0.coords t) y).val := by
  have h := index_9 t
  show (cc0_transform_10 (grid0.coords t) 0 * 8 + 1 * (y 0).val) * 128 + (cc0_transform_10 (grid0.coords t) 1 * 128 + 1 * (y 1).val)
    = 1024 * (grid0.coords t 0).val + 128 * (y 0).val + (y 1).val
  rw [h.1, h.2]; omega

variable (m : (ℓ : Loc nD τ sig) → Buf (Elt Ideal) ℓ) (c : Dev nD)

/-! ## The argument arrays and what the grid points read of them -/

/-- The gradients, the packed rows, the two scale vectors and the step counts in the memory `m`. -/
def gM : (⟨2, ![73728, 128]⟩ : Shape).Idx → EReal := m ((c : Thread nD τ).loc main_arg0)
def xM : (⟨2, ![12288, 768]⟩ : Shape).Idx → BitVec 32 := m ((c : Thread nD τ).loc main_arg1)
def aM : (⟨1, ![12288]⟩ : Shape).Idx → EReal := m ((c : Thread nD τ).loc main_arg2)
def bM : (⟨1, ![12288]⟩ : Shape).Idx → EReal := m ((c : Thread nD τ).loc main_arg3)
def stM : (⟨1, ![12288]⟩ : Shape).Idx → BitVec 32 := m ((c : Thread nD τ).loc main_arg4)

theorem hbm_eq : V m c main_arg0 = gM m c := by
  entry_read
  rfl

theorem iblk0_eq (t : Fin cfg0.N) : iblk m c 0 t = blockOf (grid0.coords t) fun R C => xM m c (ix2 R C) := by
  funext y
  unfold iblk blockOf
  blk_simp
  entry_read
  exact congrArg (xM m c) (emb_0 t y)

theorem iblk1_eq (t : Fin cfg0.N) : iblk m c 1 t = linesOf (grid0.coords t) fun R => aM m c (ix1 R) := by
  funext y
  unfold iblk linesOf
  blk_simp
  entry_read
  pointwise
  exact congrArg (fun R => aM m c (ix1 R)) (Fin.ext (emb_1 t y))

theorem iblk2_eq (t : Fin cfg0.N) : iblk m c 2 t = linesOf (grid0.coords t) fun R => bM m c (ix1 R) := by
  funext y
  unfold iblk linesOf
  blk_simp
  entry_read
  pointwise
  exact congrArg (fun R => bM m c (ix1 R)) (Fin.ext (emb_2 t y))

theorem iblk3_eq (t : Fin cfg0.N) : iblk m c 3 t = linesOf (grid0.coords t) fun R => stM m c (ix1 R) := by
  funext y
  unfold iblk linesOf
  blk_simp
  entry_read
  pointwise
  exact congrArg (fun R => stM m c (ix1 R)) (Fin.ext (emb_3 t y))

/-! ## The result arrays -/

theorem outs_4 (t : Fin cfg0.N) : (outsAt0 m c t).1 = blockOf (grid0.coords t) (wA (gM m c) (xM m c) (aM m c) (bM m c) (stM m c)) := by
  unfold outsAt0
  exact out0_A_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0)
    (gM m c) (xM m c) (aM m c) (bM m c) (stM m c) (hbm_eq m c) (iblk0_eq m c t) (iblk1_eq m c t) (iblk2_eq m c t) (iblk3_eq m c t)

theorem arr_4 : (dats m 0 c).arrAt 4 cfg0.N = tile (wA (gM m c) (xM m c) (aM m c) (bM m c) (stM m c)) := by
  refine (dats m 0 c).arrAt_eq_of_covers 4 _ (by decide +kernel) fun t hf y => ?_
  blk_simp
  rw [after0_4, outs_4]
  exact (congrArg (tile (wA (gM m c) (xM m c) (aM m c) (bM m c) (stM m c))) (emb_4 t y)).symm

theorem outs_5 (t : Fin cfg0.N) : (outsAt0 m c t).2.1 = blockOf (grid0.coords t) (updA (gM m c) (xM m c) (aM m c) (bM m c) (stM m c)) := by
  unfold outsAt0
  exact out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0)
    (gM m c) (xM m c) (aM m c) (bM m c) (stM m c) (hbm_eq m c) (iblk0_eq m c t) (iblk1_eq m c t) (iblk2_eq m c t) (iblk3_eq m c t)

theorem arr_5 : (dats m 0 c).arrAt 5 cfg0.N = tile (updA (gM m c) (xM m c) (aM m c) (bM m c) (stM m c)) := by
  refine (dats m 0 c).arrAt_eq_of_covers 5 _ (by decide +kernel) fun t hf y => ?_
  blk_simp
  rw [after0_5, outs_5]
  exact (congrArg (tile (updA (gM m c) (xM m c) (aM m c) (bM m c) (stM m c))) (emb_5 t y)).symm

theorem outs_6 (t : Fin cfg0.N) : (outsAt0 m c t).2.2.1 = blockOf (grid0.coords t) (codeA (mA (gM m c) (xM m c) (aM m c))) := by
  unfold outsAt0
  exact out0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0)
    (gM m c) (xM m c) (aM m c) (bM m c) (stM m c) (hbm_eq m c) (iblk0_eq m c t) (iblk1_eq m c t) (iblk2_eq m c t) (iblk3_eq m c t)

theorem arr_6 : (dats m 0 c).arrAt 6 cfg0.N = tile (codeA (mA (gM m c) (xM m c) (aM m c))) := by
  refine (dats m 0 c).arrAt_eq_of_covers 6 _ (by decide +kernel) fun t hf y => ?_
  blk_simp
  rw [after0_6, outs_6]
  exact (congrArg (tile (codeA (mA (gM m c) (xM m c) (aM m c)))) (emb_6 t y)).symm

theorem outs_7 (t : Fin cfg0.N) : (outsAt0 m c t).2.2.2.1 = linesOf (grid0.coords t) (fun R => scaleS (mA (gM m c) (xM m c) (aM m c) R)) := by
  unfold outsAt0
  exact out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0)
    (gM m c) (xM m c) (aM m c) (bM m c) (stM m c) (hbm_eq m c) (iblk0_eq m c t) (iblk1_eq m c t) (iblk2_eq m c t) (iblk3_eq m c t)

theorem arr_7 : (dats m 0 c).arrAt 7 cfg0.N = scales (mA (gM m c) (xM m c) (aM m c)) := by
  refine (dats m 0 c).arrAt_eq_of_covers 7 _ (by decide +kernel) fun t hf y => ?_
  blk_simp
  rw [after0_7, outs_7]
  exact (congrArg (fun R => scaleS (mA (gM m c) (xM m c) (aM m c) R)) (Fin.ext (emb_7 t y))).symm

theorem outs_8 (t : Fin cfg0.N) : (outsAt0 m c t).2.2.2.2.1 = blockOf (grid0.coords t) (codeA (vA (gM m c) (xM m c) (bM m c))) := by
  unfold outsAt0
  exact out0_A_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0)
    (gM m c) (xM m c) (aM m c) (bM m c) (stM m c) (hbm_eq m c) (iblk0_eq m c t) (iblk1_eq m c t) (iblk2_eq m c t) (iblk3_eq m c t)

theorem arr_8 : (dats m 0 c).arrAt 8 cfg0.N = tile (codeA (vA (gM m c) (xM m c) (bM m c))) := by
  refine (dats m 0 c).arrAt_eq_of_covers 8 _ (by decide +kernel) fun t hf y => ?_
  blk_simp
  rw [after0_8, outs_8]
  exact (congrArg (tile (codeA (vA (gM m c) (xM m c) (bM m c)))) (emb_8 t y)).symm

theorem outs_9 (t : Fin cfg0.N) : (outsAt0 m c t).2.2.2.2.2 = linesOf (grid0.coords t) (fun R => scaleS (vA (gM m c) (xM m c) (bM m c) R)) := by
  unfold outsAt0
  exact out0_A_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (V m c main_arg0)
    (gM m c) (xM m c) (aM m c) (bM m c) (stM m c) (hbm_eq m c) (iblk0_eq m c t) (iblk1_eq m c t) (iblk2_eq m c t) (iblk3_eq m c t)

theorem arr_9 : (dats m 0 c).arrAt 9 cfg0.N = scales (vA (gM m c) (xM m c) (bM m c)) := by
  refine (dats m 0 c).arrAt_eq_of_covers 9 _ (by decide +kernel) fun t hf y => ?_
  blk_simp
  rw [after0_9, outs_9]
  exact (congrArg (fun R => scaleS (vA (gM m c) (xM m c) (bM m c) R)) (Fin.ext (emb_9 t y))).symm

/-- The run with every result array named and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3_0) = tile (wA (gM m c) (xM m c) (aM m c) (bM m c) (stM m c))
      ∧ r.2.mem ((c : Thread nD τ).loc main_v3_1) = tile (updA (gM m c) (xM m c) (aM m c) (bM m c) (stM m c))
      ∧ r.2.mem ((c : Thread nD τ).loc main_v3_2) = tile (codeA (mA (gM m c) (xM m c) (aM m c)))
      ∧ r.2.mem ((c : Thread nD τ).loc main_v3_3) = scales (mA (gM m c) (xM m c) (aM m c))
      ∧ r.2.mem ((c : Thread nD τ).loc main_v3_4) = tile (codeA (vA (gM m c) (xM m c) (bM m c)))
      ∧ r.2.mem ((c : Thread nD τ).loc main_v3_5) = scales (vA (gM m c) (xM m c) (bM m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
      obtain ⟨h4, h5, h6, h7, h8, h9, hk⟩ := h c
      exact ⟨h4.trans (arr_4 m c), h5.trans (arr_5 m c), h6.trans (arr_6 m c), h7.trans (arr_7 m c), h8.trans (arr_8 m c), h9.trans (arr_9 m c), hk⟩)
    (Value.run_blocks m ρ)

end Cert.Proof.KernelIdeal
-- ==== Proof.ReferenceIdealPayloads.lean ====
/- The reference's payloads, element by element. -/
module

public import proofs.«01_k».proof.Proof.Spec
public import proofs.«01_k».proof.Proof.Gen.ReferenceIdeal.Frame
public import Idealize.ShloMosaic.Lib.Pipeline.ValueKit
public import Idealize.ShloMosaic.Lib.Pointwise

@[expose] public section

set_option maxRecDepth 65536
set_option maxHeartbeats 200000

noncomputable section

namespace Cert.Proof.ReferenceIdeal

open Cert.ReferenceIdeal Cert.ReferenceIdeal.Gen Cert.Proof.Spec
open Idealize.ShloMosaic Idealize.ShloMosaic.TcCoe Idealize.ShloMosaic.Tactic
open Idealize.SL.Sem

theorem pay6_at (G : Vec Ideal S12288x768 .f32) (X : Vec Ideal S12288x768 .i32) (A : Vec Ideal S12288 .f32) (y : S12288x768.Idx) :
    k0_pay6 G X A y = mS (A (ix1 (y 0))) (G y) (X y) := by
  unfold mS; pointwise [k0_pay6, k0_pay4]

theorem pay7_at (G : Vec Ideal S12288x768 .f32) (X : Vec Ideal S12288x768 .i32) (A : Vec Ideal S12288 .f32) (y : S12288x768.Idx) :
    k0_pay7 G X A y = vS (A (ix1 (y 0))) (G y) (X y) := by
  unfold vS; pointwise [k0_pay7, k0_pay4]

theorem pay11_at (m v : FVec Ideal S12288x768 .f32) (T : Vec Ideal S12288 .i32) (y : S12288x768.Idx) :
    k0_pay11 m v (k0_pay9 T) (k0_pay10 T) y = updS (stepS (T (ix1 (y 0)))) (m y) (v y) := by
  unfold updS stepS; pointwise [k0_pay11, k0_pay9, k0_pay10, k0_pay8]

theorem pay12_at (X : Vec Ideal S12288x768 .i32) (m v : FVec Ideal S12288x768 .f32) (T : Vec Ideal S12288 .i32) (y : S12288x768.Idx) :
    k0_pay12 (k0_pay5 X) m v (k0_pay9 T) (k0_pay10 T) y = wS (stepS (T (ix1 (y 0)))) (m y) (v y) (X y) := by
  unfold wS updS stepS; pointwise [k0_pay12, k0_pay11, k0_pay9, k0_pay10, k0_pay8, k0_pay5]

/-- The largest magnitude along a row. -/
theorem max_at (m : FVec Ideal S12288x768 .f32) (r : Fin 12288) :
    multiReduction .maximumf [1] S12288 (absf m) 0xFF800000#32 reduces_S12288x768_S12288 (.inl rfl) rfl (ix1 r)
      = maxS fun C => m (ix2 r C) := by
  refine (Ideal.multiReduction_maximumf_single (absf m) 0xFF800000#32 reduces_S12288x768_S12288 (.inl rfl) rfl (ix1 r)).trans ?_
  unfold maxS
  refine congrArg (fun f : Fin 768 → EReal => Finset.fold max (Ideal.ofBits .f32 4286578688#32) f Finset.univ) (funext fun C => ?_)
  refine congrArg (fun z : S12288x768.Idx => (FloatOps.absf (F := Ideal) (φ := .f32) (m z) : EReal)) ?_
  funext d
  refine Fin.cases rfl (Fin.cases rfl finZeroElim) d

/-- The scale the body makes of a row's largest magnitude. -/
theorem scale_of (M : FVec Ideal S12288 .f32) (y : S12288.Idx) :
    select (cmpf .oeq M (broadcast S12288 (Scalar.ofBits .f32 0x00000000#32))) (broadcast S12288 (Scalar.ofBits .f32 0x3F800000#32))
        (divf M (broadcast S12288 (Scalar.ofBits .f32 0x42FE0000#32))) y
      = if M y = 0 then (1 : EReal) else Ideal.div (M y) (Ideal.ofBits .f32 1123942400#32) := by
  pointwise

theorem if_congr_of {x z : EReal} (h : x = z) :
    (if x = 0 then (1 : EReal) else Ideal.div x (Ideal.ofBits .f32 1123942400#32))
      = if z = 0 then (1 : EReal) else Ideal.div z (Ideal.ofBits .f32 1123942400#32) := by
  rw [h]

theorem pay13_at (m : FVec Ideal S12288x768 .f32) (r : Fin 12288) : k0_pay13 m (ix1 r) = scaleS fun C => m (ix2 r C) := by
  unfold k0_pay13 scaleS
  exact (scale_of _ _).trans (if_congr_of (max_at m r))

theorem pay15_at (m : FVec Ideal S12288x768 .f32) (r : Fin 12288) : k0_pay15 m (ix1 r) = scaleS fun C => m (ix2 r C) := by
  unfold k0_pay15 scaleS
  exact (scale_of _ _).trans (if_congr_of (max_at m r))

/-- The codes the body makes of values and their rows' scales. -/
theorem code_of (m : FVec Ideal S12288x768 .f32) (S : FVec Ideal S12288 .f32) (y : S12288x768.Idx) :
    k0_pay1 m S y = codeS (m y) (S (ix1 (y 0))) := by
  unfold codeS
  pointwise [k0_pay1]

theorem pay1_at (m : FVec Ideal S12288x768 .f32) (y : S12288x768.Idx) :
    k0_pay1 m (k0_pay15 m) y = codeS (m y) (scaleS fun C => m (ix2 (y 0) C)) := by
  rw [code_of]
  exact congrArg (codeS (m y)) (pay15_at m (y 0))

theorem pay14_eq (m : FVec Ideal S12288x768 .f32) : k0_pay14 m = k0_pay1 m (k0_pay13 m) := by
  unfold k0_pay14 k0_pay1
  rfl

theorem pay14_at (m : FVec Ideal S12288x768 .f32) (y : S12288x768.Idx) :
    k0_pay14 m y = codeS (m y) (scaleS fun C => m (ix2 (y 0) C)) := by
  rw [pay14_eq, code_of]
  exact congrArg (codeS (m y)) (pay13_at m (y 0))

theorem pay2_at (s : FVec Ideal S12288 .f32) (y : S96x128.Idx) (h : (y 0).val * 128 + (y 1).val < 12288) :
    k0_pay2 s y = s (ix1 ⟨(y 0).val * 128 + (y 1).val, h⟩) := by
  pointwise [k0_pay2]

theorem pay3_at (s : FVec Ideal S12288 .f32) (y : S96x128.Idx) (h : (y 0).val * 128 + (y 1).val < 12288) :
    k0_pay3 s y = s (ix1 ⟨(y 0).val * 128 + (y 1).val, h⟩) := by
  pointwise [k0_pay3]

end Cert.Proof.ReferenceIdeal
-- ==== Proof.ReferenceIdealArrays.lean ====
/- The reference's result arrays after the run, as functions of its argument arrays. -/
module

public import proofs.«01_k».proof.Proof.ReferenceIdealPayloads
public import proofs.«01_k».proof.Proof.Gen.ReferenceIdeal.Frame
public import Idealize.ShloMosaic.Lib.Pipeline.ValueKit
public import Idealize.ShloMosaic.Lib.Pointwise

@[expose] public section

set_option maxRecDepth 65536
set_option maxHeartbeats 200000

noncomputable section

namespace Cert.Proof.ReferenceIdeal

open Cert.ReferenceIdeal Cert.ReferenceIdeal.Gen Cert.Proof.Spec
open Idealize.ShloMosaic Idealize.ShloMosaic.TcCoe Idealize.ShloMosaic.Tactic
open Idealize.SL.Sem

/-! ## Each window's one block is its whole array -/

theorem emb_0 (t : Fin grid0.N) (y : S12288x768.Idx) : ((win0_0.blk t).view.emb y : S12288x768.Idx) = y := by
  funext d
  apply Fin.ext
  refine Fin.cases ?_ (Fin.cases ?_ finZeroElim) d
  · show 0 * 12288 + 1 * (y 0).val = (y 0).val
    omega
  · show 0 * 768 + 1 * (y 1).val = (y 1).val
    omega

theorem emb_1 (t : Fin grid0.N) (y : S12288x768.Idx) : ((win0_1.blk t).view.emb y : S12288x768.Idx) = y := by
  funext d
  apply Fin.ext
  refine Fin.cases ?_ (Fin.cases ?_ finZeroElim) d
  · show 0 * 12288 + 1 * (y 0).val = (y 0).val
    omega
  · show 0 * 768 + 1 * (y 1).val = (y 1).val
    omega

theorem emb_2 (t : Fin grid0.N) (y : S12288.Idx) : ((win0_2.blk t).view.emb y : S12288.Idx) = y := by
  funext d
  apply Fin.ext
  refine Fin.cases ?_ finZeroElim d
  show 0 * 12288 + 1 * (y 0).val = (y 0).val
  omega

theorem emb_3 (t : Fin grid0.N) (y : S12288.Idx) : ((win0_3.blk t).view.emb y : S12288.Idx) = y := by
  funext d
  apply Fin.ext
  refine Fin.cases ?_ finZeroElim d
  show 0 * 12288 + 1 * (y 0).val = (y 0).val
  omega

theorem emb_4 (t : Fin grid0.N) (y : S12288.Idx) : ((win0_4.blk t).view.emb y : S12288.Idx) = y := by
  funext d
  apply Fin.ext
  refine Fin.cases ?_ finZeroElim d
  show 0 * 12288 + 1 * (y 0).val = (y 0).val
  omega

theorem emb_5 (t : Fin grid0.N) (y : S12288x768.Idx) : ((win0_5.blk t).view.emb y : S12288x768.Idx) = y := by
  funext d
  apply Fin.ext
  refine Fin.cases ?_ (Fin.cases ?_ finZeroElim) d
  · show 0 * 12288 + 1 * (y 0).val = (y 0).val
    omega
  · show 0 * 768 + 1 * (y 1).val = (y 1).val
    omega

theorem emb_6 (t : Fin grid0.N) (y : S12288x768.Idx) : ((win0_6.blk t).view.emb y : S12288x768.Idx) = y := by
  funext d
  apply Fin.ext
  refine Fin.cases ?_ (Fin.cases ?_ finZeroElim) d
  · show 0 * 12288 + 1 * (y 0).val = (y 0).val
    omega
  · show 0 * 768 + 1 * (y 1).val = (y 1).val
    omega

theorem emb_7 (t : Fin grid0.N) (y : S12288x768.Idx) : ((win0_7.blk t).view.emb y : S12288x768.Idx) = y := by
  funext d
  apply Fin.ext
  refine Fin.cases ?_ (Fin.cases ?_ finZeroElim) d
  · show 0 * 12288 + 1 * (y 0).val = (y 0).val
    omega
  · show 0 * 768 + 1 * (y 1).val = (y 1).val
    omega

theorem emb_8 (t : Fin grid0.N) (y : S96x128.Idx) : ((win0_8.blk t).view.emb y : S96x128.Idx) = y := by
  funext d
  apply Fin.ext
  refine Fin.cases ?_ (Fin.cases ?_ finZeroElim) d
  · show 0 * 96 + 1 * (y 0).val = (y 0).val
    omega
  · show 0 * 128 + 1 * (y 1).val = (y 1).val
    omega

theorem emb_9 (t : Fin grid0.N) (y : S12288x768.Idx) : ((win0_9.blk t).view.emb y : S12288x768.Idx) = y := by
  funext d
  apply Fin.ext
  refine Fin.cases ?_ (Fin.cases ?_ finZeroElim) d
  · show 0 * 12288 + 1 * (y 0).val = (y 0).val
    omega
  · show 0 * 768 + 1 * (y 1).val = (y 1).val
    omega

theorem emb_10 (t : Fin grid0.N) (y : S96x128.Idx) : ((win0_10.blk t).view.emb y : S96x128.Idx) = y := by
  funext d
  apply Fin.ext
  refine Fin.cases ?_ (Fin.cases ?_ finZeroElim) d
  · show 0 * 96 + 1 * (y 0).val = (y 0).val
    omega
  · show 0 * 128 + 1 * (y 1).val = (y 1).val
    omega

variable (m : (ℓ : Loc nD τ sig) → Buf (Elt Ideal) ℓ) (c : Dev nD) (ρ : Dev nD → PrngReg)

/-! ## The argument arrays and what the body reads of them -/

/-- The gradients, the packed rows, the two scale vectors and the step counts in the memory `m`. -/
def gM : (⟨2, ![73728, 128]⟩ : Shape).Idx → EReal := m ((c : Thread nD τ).loc main_arg0)
def xM : (⟨2, ![12288, 768]⟩ : Shape).Idx → BitVec 32 := m ((c : Thread nD τ).loc main_arg1)
def aM : (⟨1, ![12288]⟩ : Shape).Idx → EReal := m ((c : Thread nD τ).loc main_arg2)
def bM : (⟨1, ![12288]⟩ : Shape).Idx → EReal := m ((c : Thread nD τ).loc main_arg3)
def stM : (⟨1, ![12288]⟩ : Shape).Idx → BitVec 32 := m ((c : Thread nD τ).loc main_arg4)

theorem iblk0_eq (t : Fin cfg0.N) : iblk m c 0 t = tile (gA (gM m c)) := by
  funext y
  unfold iblk tile gA
  blk_simp
  entry_read
  pointwise
  have h0 : ∀ z : S12288x768.Idx, z = y → (z 0).val * 6 + (z 1).val / 128 = 6 * (y 0).val + (y 1).val / 128 := by
    rintro z rfl; omega
  have h1 : ∀ z : S12288x768.Idx, z = y → (z 1).val % 128 = (y 1).val % 128 := by
    rintro z rfl; rfl
  exact congrArg₂ (fun a b => gM m c (ix2 a b)) (Fin.ext (h0 _ (emb_0 t y))) (Fin.ext (h1 _ (emb_0 t y)))

theorem iblk1_eq (t : Fin cfg0.N) : iblk m c 1 t = xM m c := by
  funext y
  unfold iblk
  blk_simp
  entry_read
  exact congrArg (xM m c) (emb_1 t y)

theorem iblk2_eq (t : Fin cfg0.N) : iblk m c 2 t = aM m c := by
  funext y
  unfold iblk
  blk_simp
  entry_read
  exact congrArg (aM m c) (emb_2 t y)

theorem iblk3_eq (t : Fin cfg0.N) : iblk m c 3 t = bM m c := by
  funext y
  unfold iblk
  blk_simp
  entry_read
  exact congrArg (bM m c) (emb_3 t y)

theorem iblk4_eq (t : Fin cfg0.N) : iblk m c 4 t = stM m c := by
  funext y
  unfold iblk
  blk_simp
  entry_read
  exact congrArg (stM m c) (emb_4 t y)

/-- The first moments the body computes. -/
theorem m_at (t : Fin cfg0.N) (y : S12288x768.Idx) :
    k0_pay16 (iblk m c 0 t) (iblk m c 1 t) (iblk m c 2 t) (iblk m c 3 t) (iblk m c 4 t) y
      = mA (gM m c) (xM m c) (aM m c) (y 0) (y 1) := by
  unfold k0_pay16
  rw [iblk0_eq, iblk1_eq, iblk2_eq, View.ld_unit_lit _ _ (by decide), View.ld_unit_lit _ _ (by decide), View.ld_unit_lit _ _ (by decide), pay6_at]
  unfold mA
  rw [← eq_ix2 y]
  rfl

/-- The second moments. -/
theorem v_at (t : Fin cfg0.N) (y : S12288x768.Idx) :
    k0_pay17 (iblk m c 0 t) (iblk m c 1 t) (iblk m c 2 t) (iblk m c 3 t) (iblk m c 4 t) y
      = vA (gM m c) (xM m c) (bM m c) (y 0) (y 1) := by
  unfold k0_pay17
  rw [iblk0_eq, iblk1_eq, iblk3_eq, View.ld_unit_lit _ _ (by decide), View.ld_unit_lit _ _ (by decide), View.ld_unit_lit _ _ (by decide), pay7_at]
  unfold vA
  rw [← eq_ix2 y]
  rfl

/-! ## The result arrays -/

theorem rowOf (y : S96x128.Idx) : (y 0).val * 128 + (y 1).val < 12288 := by
  have h0 : (y 0).val < 96 := (y 0).isLt
  have h1 : (y 1).val < 128 := (y 1).isLt
  omega

theorem out_5 (t : Fin cfg0.N) (y : S12288x768.Idx) : out0_5 (iblk m c 0 t) (iblk m c 1 t) (iblk m c 2 t) (iblk m c 3 t) (iblk m c 4 t) y = tile (wA (gM m c) (xM m c) (aM m c) (bM m c) (stM m c)) y := by
  unfold out0_5
  rw [View.canon_unit_zero (by funext d; fin_cases d <;> rfl)]
  unfold k0_pay18 k0_pay19
  rw [View.ld_unit_lit _ _ (by decide), View.ld_unit_lit _ _ (by decide), pay12_at, m_at, v_at, iblk1_eq, iblk4_eq]
  unfold tile wA
  rw [← eq_ix2 y]

theorem arr_5 : (dats m 0 c).arrAt 5 cfg0.N = tile (wA (gM m c) (xM m c) (aM m c) (bM m c) (stM m c)) := by
  refine (dats m 0 c).arrAt_eq_of_covers 5 _ (by decide +kernel) fun t hf y => ?_
  blk_simp
  rw [after0_5]
  exact (out_5 m c t y).trans (congrArg _ (emb_5 t y)).symm

theorem out_6 (t : Fin cfg0.N) (y : S12288x768.Idx) : out0_6 (iblk m c 0 t) (iblk m c 1 t) (iblk m c 2 t) (iblk m c 3 t) (iblk m c 4 t) y = tile (updA (gM m c) (xM m c) (aM m c) (bM m c) (stM m c)) y := by
  unfold out0_6
  rw [View.canon_unit_zero (by funext d; fin_cases d <;> rfl)]
  unfold k0_pay18 k0_pay19
  rw [View.ld_unit_lit _ _ (by decide), pay11_at, m_at, v_at, iblk4_eq]
  rfl

theorem arr_6 : (dats m 0 c).arrAt 6 cfg0.N = tile (updA (gM m c) (xM m c) (aM m c) (bM m c) (stM m c)) := by
  refine (dats m 0 c).arrAt_eq_of_covers 6 _ (by decide +kernel) fun t hf y => ?_
  blk_simp
  rw [after0_6]
  exact (out_6 m c t y).trans (congrArg _ (emb_6 t y)).symm

theorem out_7 (t : Fin cfg0.N) (y : S12288x768.Idx) : out0_7 (iblk m c 0 t) (iblk m c 1 t) (iblk m c 2 t) (iblk m c 3 t) (iblk m c 4 t) y = tile (codeA (mA (gM m c) (xM m c) (aM m c))) y := by
  unfold out0_7
  rw [View.canon_unit_zero (by funext d; fin_cases d <;> rfl)]
  rw [pay14_at, m_at]
  simp only [m_at]
  rfl

theorem arr_7 : (dats m 0 c).arrAt 7 cfg0.N = tile (codeA (mA (gM m c) (xM m c) (aM m c))) := by
  refine (dats m 0 c).arrAt_eq_of_covers 7 _ (by decide +kernel) fun t hf y => ?_
  blk_simp
  rw [after0_7]
  exact (out_7 m c t y).trans (congrArg _ (emb_7 t y)).symm

theorem out_8 (t : Fin cfg0.N) (y : S96x128.Idx) : out0_8 (iblk m c 0 t) (iblk m c 1 t) (iblk m c 2 t) (iblk m c 3 t) (iblk m c 4 t) y = scales (mA (gM m c) (xM m c) (aM m c)) y := by
  unfold out0_8
  rw [View.canon_unit_zero (by funext d; fin_cases d <;> rfl)]
  rw [pay2_at _ _ (rowOf y), pay13_at]
  simp only [m_at]
  rfl

theorem arr_8 : (dats m 0 c).arrAt 8 cfg0.N = scales (mA (gM m c) (xM m c) (aM m c)) := by
  refine (dats m 0 c).arrAt_eq_of_covers 8 _ (by decide +kernel) fun t hf y => ?_
  blk_simp
  rw [after0_8]
  exact (out_8 m c t y).trans (congrArg _ (emb_8 t y)).symm

theorem out_9 (t : Fin cfg0.N) (y : S12288x768.Idx) : out0_9 (iblk m c 0 t) (iblk m c 1 t) (iblk m c 2 t) (iblk m c 3 t) (iblk m c 4 t) y = tile (codeA (vA (gM m c) (xM m c) (bM m c))) y := by
  unfold out0_9
  rw [View.canon_unit_zero (by funext d; fin_cases d <;> rfl)]
  unfold k0_pay20
  rw [pay1_at, v_at]
  simp only [v_at]
  rfl

theorem arr_9 : (dats m 0 c).arrAt 9 cfg0.N = tile (codeA (vA (gM m c) (xM m c) (bM m c))) := by
  refine (dats m 0 c).arrAt_eq_of_covers 9 _ (by decide +kernel) fun t hf y => ?_
  blk_simp
  rw [after0_9]
  exact (out_9 m c t y).trans (congrArg _ (emb_9 t y)).symm

theorem out_10 (t : Fin cfg0.N) (y : S96x128.Idx) : out0_10 (iblk m c 0 t) (iblk m c 1 t) (iblk m c 2 t) (iblk m c 3 t) (iblk m c 4 t) y = scales (vA (gM m c) (xM m c) (bM m c)) y := by
  unfold out0_10
  rw [View.canon_unit_zero (by funext d; fin_cases d <;> rfl)]
  unfold k0_pay20
  rw [pay3_at _ _ (rowOf y), pay15_at]
  simp only [v_at]
  rfl

theorem arr_10 : (dats m 0 c).arrAt 10 cfg0.N = scales (vA (gM m c) (xM m c) (bM m c)) := by
  refine (dats m 0 c).arrAt_eq_of_covers 10 _ (by decide +kernel) fun t hf y => ?_
  blk_simp
  rw [after0_10]
  exact (out_10 m c t y).trans (congrArg _ (emb_10 t y)).symm

/-- The run with every result array named and the arguments unchanged. -/
theorem run : θ_run defs (onTc (τ := τ) (main (F := Ideal))) ⟨m, fun _ => 0, ρ⟩ fun r => ∀ c : Dev nD,
      r.2.mem ((c : Thread nD τ).loc main_v1_0) = tile (wA (gM m c) (xM m c) (aM m c) (bM m c) (stM m c))
      ∧ r.2.mem ((c : Thread nD τ).loc main_v1_1) = tile (updA (gM m c) (xM m c) (aM m c) (bM m c) (stM m c))
      ∧ r.2.mem ((c : Thread nD τ).loc main_v1_2) = tile (codeA (mA (gM m c) (xM m c) (aM m c)))
      ∧ r.2.mem ((c : Thread nD τ).loc main_v1_3) = scales (mA (gM m c) (xM m c) (aM m c))
      ∧ r.2.mem ((c : Thread nD τ).loc main_v1_4) = tile (codeA (vA (gM m c) (xM m c) (bM m c)))
      ∧ r.2.mem ((c : Thread nD τ).loc main_v1_5) = scales (vA (gM m c) (xM m c) (bM m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (arr_5 m c), ((h c).1 6).trans (arr_6 m c), ((h c).1 7).trans (arr_7 m c), ((h c).1 8).trans (arr_8 m c), ((h c).1 9).trans (arr_9 m c), ((h c).1 10).trans (arr_10 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Proof.ReferenceIdeal
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame
public import proofs.«01_k».proof.Proof.KernelIdealFrame
public import proofs.«01_k».proof.Proof.KernelIdealArrays
public import proofs.«01_k».proof.Proof.ReferenceIdealArrays

@[expose] public section

noncomputable section

namespace Cert.Proof

open Idealize.ShloMosaic Idealize.SL.Sem

/-- The kernel and the reference compute the same six arrays. -/
theorem same_results : Cert.algebraic_KernelIdeal_ReferenceIdeal := by
  intro m g m' g' hpre hargs
  refine ⟨fun c => Spec.tile (Spec.wA (KernelIdeal.gM m c) (KernelIdeal.xM m c) (KernelIdeal.aM m c) (KernelIdeal.bM m c) (KernelIdeal.stM m c)),
    fun c => Spec.tile (Spec.updA (KernelIdeal.gM m c) (KernelIdeal.xM m c) (KernelIdeal.aM m c) (KernelIdeal.bM m c) (KernelIdeal.stM m c)),
    fun c => Spec.tile (Spec.codeA (Spec.mA (KernelIdeal.gM m c) (KernelIdeal.xM m c) (KernelIdeal.aM m c))),
    fun c => Spec.scales (Spec.mA (KernelIdeal.gM m c) (KernelIdeal.xM m c) (KernelIdeal.aM m c)),
    fun c => Spec.tile (Spec.codeA (Spec.vA (KernelIdeal.gM m c) (KernelIdeal.xM m c) (KernelIdeal.bM m c))),
    fun c => Spec.scales (Spec.vA (KernelIdeal.gM m c) (KernelIdeal.xM m c) (KernelIdeal.bM m c)), KernelIdeal.run m g, ?_⟩
  refine (θ_run _ _ _).mono (fun r h c => ?_) (ReferenceIdeal.run m' g')
  obtain ⟨e0, e1, e2, e3, e4⟩ := hargs c
  have hg : ReferenceIdeal.gM m' c = KernelIdeal.gM m c := e0
  have hx : ReferenceIdeal.xM m' c = KernelIdeal.xM m c := e1
  have ha : ReferenceIdeal.aM m' c = KernelIdeal.aM m c := e2
  have hb : ReferenceIdeal.bM m' c = KernelIdeal.bM m c := e3
  have hs : ReferenceIdeal.stM m' c = KernelIdeal.stM m c := e4
  have H := h c
  rw [hg, hx, ha, hb, hs] at H
  exact H

theorem claim : Cert.Claim := ⟨Cert.Kernel.Gen.facts, Cert.KernelIdeal.Gen.facts, Cert.ReferenceIdeal.Gen.facts,
  fun m ρ _ => Cert.Proof.Kernel.frame m ρ,
  fun m ρ _ => Cert.Proof.KernelIdeal.frame m ρ,
  fun m ρ _ => Cert.ReferenceIdeal.Gen.frame m ρ,
  trivial,
  same_results⟩

end Cert.Proof

end
